-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4x1024x1024 : Shape := ⟨3, ![4, 1024, 1024]⟩
abbrev S12 : Shape := ⟨1, ![12]⟩
abbrev S_ : Shape := ⟨0, ![]⟩
abbrev S256x1024 : Shape := ⟨2, ![256, 1024]⟩
abbrev S1024x1024 : Shape := ⟨2, ![1024, 1024]⟩
abbrev S1x256x1024 : Shape := ⟨3, ![1, 256, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1024x2048, .f32⟩
  | .local _ .vmem, ⟨0, _⟩ => ⟨S4096x1024, .f32⟩
  | .local _ .vmem, ⟨1, _⟩ => ⟨S1024x2048, .f32⟩
  | .local _ .vmem, ⟨2, _⟩ => ⟨S1024x2048, .f32⟩
  | .local _ .vmem, ⟨3, _⟩ => ⟨S4x1024x1024, .bf16⟩
  | .local _ .vmem, ⟨4, _⟩ => ⟨S4x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) (c3_i32_8 : BitVec 32) (c0_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v12 : BitVec 32 := Scalar.addi v2 c3_i32_8
  let c4_i32_9 : BitVec 32 := 4#32
  let v13 : BitVec 32 := Scalar.remsi v12 c4_i32_9
  let c1024_i32 : BitVec 32 := 1024#32
  let v16 : BitVec 32 := Scalar.muli v13 c1024_i32
  let v17 : BitVec 32 := Scalar.addi v16 c0_i32_12
  let v18 : Index := Scalar.indexCast v17
  let c0 : Index := 0#32
  ![v18.toNat, 0]
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_22 : BitVec 32 := 1#32
  let v28 : BitVec 32 := Scalar.muli v6 c1_i32_22
  let v29 : BitVec 32 := Scalar.addi c0_i32_23 v28
  v29.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_40 : BitVec 32 := 1#32
  let v50 : BitVec 32 := Scalar.muli v4 c1_i32_40
  let v51 : BitVec 32 := Scalar.addi c0_i32_41 v50
  v51.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_57 : BitVec 32 := 1#32
  let v72 : BitVec 32 := Scalar.muli v6 c1_i32_57
  let v73 : BitVec 32 := Scalar.addi c0_i32_58 v72
  v73.toNat
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_76 : BitVec 32 := 1#32
  let v94 : BitVec 32 := Scalar.muli v4 c1_i32_76
  let v95 : BitVec 32 := Scalar.addi c0_i32_77 v94
  v95.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_93 : BitVec 32 := 1#32
  let v116 : BitVec 32 := Scalar.muli v6 c1_i32_93
  let v117 : BitVec 32 := Scalar.addi c0_i32_94 v116
  v117.toNat
def k0_dev8 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_112 : BitVec 32 := 1#32
  let v138 : BitVec 32 := Scalar.muli v4 c1_i32_112
  let v139 : BitVec 32 := Scalar.addi c0_i32_113 v138
  v139.toNat
def k0_dev9 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_129 : BitVec 32 := 1#32
  let v160 : BitVec 32 := Scalar.muli v6 c1_i32_129
  let v161 : BitVec 32 := Scalar.addi c0_i32_130 v160
  v161.toNat
def k0_dev10 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_148 : BitVec 32 := 1#32
  let v182 : BitVec 32 := Scalar.muli v4 c1_i32_148
  let v183 : BitVec 32 := Scalar.addi c0_i32_149 v182
  v183.toNat
def k0_dev11 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_182 : BitVec 32 := 1#32
  let v220 : BitVec 32 := Scalar.muli v6 c1_i32_182
  let v221 : BitVec 32 := Scalar.addi c0_i32_183 v220
  v221.toNat
def k0_dev12 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_214 : BitVec 32 := 1#32
  let v254 : BitVec 32 := Scalar.muli v4 c1_i32_214
  let v255 : BitVec 32 := Scalar.addi c0_i32_215 v254
  v255.toNat
def k0_dev13 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_245 : BitVec 32 := 1#32
  let v288 : BitVec 32 := Scalar.muli v6 c1_i32_245
  let v289 : BitVec 32 := Scalar.addi c0_i32_246 v288
  v289.toNat
def k0_dev14 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_277 : BitVec 32 := 1#32
  let v322 : BitVec 32 := Scalar.muli v4 c1_i32_277
  let v323 : BitVec 32 := Scalar.addi c0_i32_278 v322
  v323.toNat
def k0_dev15 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_309 : BitVec 32 := 1#32
  let v356 : BitVec 32 := Scalar.muli v6 c1_i32_309
  let v357 : BitVec 32 := Scalar.addi c0_i32_310 v356
  v357.toNat
def k0_dev16 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_341 : BitVec 32 := 1#32
  let v390 : BitVec 32 := Scalar.muli v4 c1_i32_341
  let v391 : BitVec 32 := Scalar.addi c0_i32_342 v390
  v391.toNat
def k0_dev17 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_372 : BitVec 32 := 1#32
  let v424 : BitVec 32 := Scalar.muli v6 c1_i32_372
  let v425 : BitVec 32 := Scalar.addi c0_i32_373 v424
  v425.toNat
def k0_dev18 (d0 : Dev nD) : Nat :=
  let c0_i32_405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_404 : BitVec 32 := 1#32
  let v458 : BitVec 32 := Scalar.muli v4 c1_i32_404
  let v459 : BitVec 32 := Scalar.addi c0_i32_405 v458
  v459.toNat
def k0_dev19 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_438 : BitVec 32 := 1#32
  let v496 : BitVec 32 := Scalar.muli v6 c1_i32_438
  let v497 : BitVec 32 := Scalar.addi c0_i32_439 v496
  v497.toNat
def k0_dev20 (d0 : Dev nD) : Nat :=
  let c0_i32_471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_470 : BitVec 32 := 1#32
  let v530 : BitVec 32 := Scalar.muli v4 c1_i32_470
  let v531 : BitVec 32 := Scalar.addi c0_i32_471 v530
  v531.toNat
def k0_dev21 (d0 : Dev nD) : Nat :=
  let c0_i32_502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_501 : BitVec 32 := 1#32
  let v564 : BitVec 32 := Scalar.muli v6 c1_i32_501
  let v565 : BitVec 32 := Scalar.addi c0_i32_502 v564
  v565.toNat
def k0_dev22 (d0 : Dev nD) : Nat :=
  let c0_i32_534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_533 : BitVec 32 := 1#32
  let v598 : BitVec 32 := Scalar.muli v4 c1_i32_533
  let v599 : BitVec 32 := Scalar.addi c0_i32_534 v598
  v599.toNat
def k0_dev23 (d0 : Dev nD) : Nat :=
  let c0_i32_565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_564 : BitVec 32 := 1#32
  let v632 : BitVec 32 := Scalar.muli v6 c1_i32_564
  let v633 : BitVec 32 := Scalar.addi c0_i32_565 v632
  v633.toNat
def k0_dev24 (d0 : Dev nD) : Nat :=
  let c0_i32_597 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_596 : BitVec 32 := 1#32
  let v666 : BitVec 32 := Scalar.muli v4 c1_i32_596
  let v667 : BitVec 32 := Scalar.addi c0_i32_597 v666
  v667.toNat
def k0_dev25 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_627 : BitVec 32 := 1#32
  let v700 : BitVec 32 := Scalar.muli v6 c1_i32_627
  let v701 : BitVec 32 := Scalar.addi c0_i32_628 v700
  v701.toNat
def k0_dev26 (d0 : Dev nD) : Nat :=
  let c0_i32_660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_659 : BitVec 32 := 1#32
  let v734 : BitVec 32 := Scalar.muli v4 c1_i32_659
  let v735 : BitVec 32 := Scalar.addi c0_i32_660 v734
  v735.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Setup.lean ====
/-
# The ring of four devices: numbering, semaphores, cells and contents

The kernel sums `x @ w` over four devices on two rings at once: the left half of the columns travels
clockwise (to the right neighbour), the right half counter-clockwise. Every partial sum is cut into four
row tiles, so a device makes 24 transfers. They are numbered in program order, `n = 8 * hop + 2 * tile +
direction`; transfer `n` reads slot `n` of the sender's ring buffer and lands in slot `n + 8` of the target's.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the ring. -/
abbrev UB : Type := URounds (GSem nD τ sig) Bool
/-- The ghost state of the pipeline and of the ring. -/
abbrev UU : Type := UR sig nD τ × UB

local notation "𝕄" => MT nD τ sig Unit (Elt F) ℕ UU ℕ

/-- The pipeline's ghost state in the whole. -/
abbrev EP : Emb (UR sig nD τ) (MT nD τ sig Unit (Elt F) ℕ UU ℕ) := embL
/-- The ring's ghost state in the whole. -/
abbrev ER : Emb UB (MT nD τ sig Unit (Elt F) ℕ UU ℕ) := embR

/-! ## The two neighbours -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩
/-- The left neighbour of the right neighbour. -/
theorem prv_nxt (c : Dev nD) : prv (nxt c) = c := by revert c; decide
/-- The right neighbour of the left neighbour. -/
theorem nxt_prv (c : Dev nD) : nxt (prv c) = c := by revert c; decide

/-- One step along a ring: direction `false` goes right, direction `true` goes left. -/
def fwd : Bool → Dev nD → Dev nD | false => nxt | true => prv
/-- One step back along a ring. -/
def bwd : Bool → Dev nD → Dev nD | false => prv | true => nxt
/-- Back undoes forth. -/
theorem bwd_fwd (b : Bool) (c : Dev nD) : bwd b (fwd b c) = c := by revert b c; decide
/-- Forth undoes back. -/
theorem fwd_bwd (b : Bool) (c : Dev nD) : fwd b (bwd b c) = c := by revert b c; decide
/-- A step along a ring, as a permutation of the devices. -/
def ring (b : Bool) : Dev nD ≃ Dev nD := ⟨fwd b, bwd b, bwd_fwd b, fwd_bwd b⟩

/-! ## The numbering -/

/-- The direction of number `n`: even numbers go right, odd ones left. -/
def dirOf (n : ℕ) : Bool := n % 2 == 1
/-- The next hop keeps the direction. -/
theorem dirOf_add8 (n : ℕ) : dirOf (n + 8) = dirOf n := by unfold dirOf; rw [show (n + 8) % 2 = n % 2 by omega]
/-- The row tile of number `n`. -/
def tileOf (n : ℕ) : ℕ := n / 2 % 4

/-- Where slot `n` starts in a ring buffer. -/
def slotOff (n : ℕ) : Fin 3 → ℕ := ![n / 8 % 4, 256 * (n / 2 % 4), 0]
/-- The slots lie inside the ring buffer. -/
theorem slot_inb (n : ℕ) : ∀ i, slotOff n i + S1x256x1024.size i ≤ S4x1024x1024.size i := by
  intro i
  have h1 : n / 8 % 4 < 4 := Nat.mod_lt _ (by decide)
  have h2 : n / 2 % 4 < 4 := Nat.mod_lt _ (by decide)
  fin_cases i
  · show n / 8 % 4 + 1 ≤ 4; omega
  · show 256 * (n / 2 % 4) + 256 ≤ 1024; omega
  · show 0 + 1024 ≤ 1024; omega
/-- Slot `n` of a ring buffer: 256 rows of one of its four planes. -/
abbrev slotR (n : ℕ) : Rect S4x1024x1024 := Rect.unit (s := S4x1024x1024) (slotOff n) S1x256x1024.size (slot_inb n)

/-! ## The memrefs and the semaphores -/

/-- The staged first operand. -/
abbrev xM : Memref sig .tc .vmem S4096x1024 .f32 := Memref.whole cc0_stg0_0
/-- The staged second operand. -/
abbrev wM : Memref sig .tc .vmem S1024x2048 .f32 := Memref.whole cc0_stg1_0
/-- The result buffer. -/
abbrev oM : Memref sig .tc .vmem S1024x2048 .f32 := Memref.whole cc0_stg2_0
/-- The ring buffer of a direction. -/
def bufM : Bool → Memref sig .tc .vmem S4x1024x1024 .bf16
  | false => Memref.whole cc0_scratch0
  | true => Memref.whole cc0_scratch1
/-- Slot `n`, as the loads and stores reach it. -/
abbrev slotV (n : ℕ) : View sig .tc .vmem (slotR n).shape .bf16 := (bufM (dirOf n)).access (slotR n)
/-- Slot `n`, as the transfers reach it. -/
abbrev slotM (n : ℕ) : Memref sig .tc .vmem S256x1024 .bf16 :=
  ((bufM (dirOf n)).slice (slotR n) (fun _ => rfl)).squeeze S256x1024 squeezes_S1x256x1024_S256x1024

/-- The runtime's barrier semaphore. -/
abbrev barS : Sem sig := (0 : Sem sig)

/-- The position of transfer `n` in its semaphore arrays. -/
def semIx (n : ℕ) : ℕ := n / 8 % 3 * 4 + n / 2 % 4
/-- Positions in a semaphore array are below 12. -/
theorem semIx_lt (n : ℕ) : semIx n < 12 := by unfold semIx; omega
/-- The send semaphore of transfer `n`. -/
def sS (n : ℕ) : DmaSem sig := ⟨3 + (if dirOf n then 24 else 0) + semIx n, by
  have := semIx_lt n; show _ < 51; split <;> omega⟩
/-- The receive semaphore of transfer `n`. -/
def sV (n : ℕ) : DmaSem sig := ⟨15 + (if dirOf n then 24 else 0) + semIx n, by
  have := semIx_lt n; show _ < 51; split <;> omega⟩

/-- A device's barrier cell. -/
abbrev barCell (c : Dev nD) : GSem nD τ sig := ((c : Thread nD τ), .reg barS)
/-- A device's send cell of transfer `n`. -/
abbrev sCell (c : Dev nD) (n : ℕ) : GSem nD τ sig := ((c : Thread nD τ), .dma (sS n))
/-- A device's receive cell of transfer `n`. -/
abbrev vCell (c : Dev nD) (n : ℕ) : GSem nD τ sig := ((c : Thread nD τ), .dma (sV n))

/-- The transfer a semaphore belongs to. -/
def numOf (q : DmaSem sig) : ℕ := (q.val - 3) % 12 / 4 * 8 + (q.val - 3) % 4 * 2 + (q.val - 3) / 24
/-- Whether a semaphore is a send semaphore. -/
def isSend (q : DmaSem sig) : Bool := (q.val - 3) / 12 % 2 == 0

/-- The number, the kind and the place of each transfer semaphore. -/
theorem sem_facts : ∀ n : Fin 24, (numOf (sS n) = n ∧ isSend (sS n) = true ∧ 3 ≤ (sS n).val)
    ∧ (numOf (sV n) = n ∧ isSend (sV n) = false ∧ 3 ≤ (sV n).val) := by decide +kernel
/-- The number of a send semaphore. -/
theorem num_sS {n : ℕ} (h : n < 24) : numOf (sS n) = n := (sem_facts ⟨n, h⟩).1.1
/-- The number of a receive semaphore. -/
theorem num_sV {n : ℕ} (h : n < 24) : numOf (sV n) = n := (sem_facts ⟨n, h⟩).2.1
/-- A send semaphore is one. -/
theorem isSend_sS {n : ℕ} (h : n < 24) : isSend (sS n) = true := (sem_facts ⟨n, h⟩).1.2.1
/-- A receive semaphore is no send semaphore. -/
theorem isSend_sV {n : ℕ} (h : n < 24) : isSend (sV n) = false := (sem_facts ⟨n, h⟩).2.2.1
/-- Send semaphores come after the pipeline's. -/
theorem le_sS {n : ℕ} (h : n < 24) : 3 ≤ (sS n).val := (sem_facts ⟨n, h⟩).1.2.2
/-- Receive semaphores come after the pipeline's. -/
theorem le_sV {n : ℕ} (h : n < 24) : 3 ≤ (sV n).val := (sem_facts ⟨n, h⟩).2.2.2
/-- Distinct transfers have distinct receive semaphores. -/
theorem sV_inj {n n' : ℕ} (h : n < 24) (h' : n' < 24) (e : sV n = sV n') : n = n' := by
  rw [← num_sV h, ← num_sV h', e]
/-- Distinct transfers have distinct send semaphores. -/
theorem sS_inj {n n' : ℕ} (h : n < 24) (h' : n' < 24) (e : sS n = sS n') : n = n' := by
  rw [← num_sS h, ← num_sS h', e]

/-- The credit of one landing. -/
def N : ℕ := (slotM 0).view.dmaCredit
/-- A landing counts something. -/
theorem N_pos : 0 < N := View.dmaCredit_pos _ (by decide)
/-- All slots have the same credit. -/
theorem credit_slot (n : ℕ) : (slotM n).view.dmaCredit = N := rfl

/-! ## Contents -/

/-- A row tile of `x` against a column half of `w`. -/
def mm (x : Vec F S256x1024 .f32) (w : Vec F S1024x1024 .f32) : FVec F S256x1024 .f32 :=
  matmul dot_S256x1024_S1024x1024_S256x1024_1_0_0_1_n_n none (shapeCast S256x1024 x shapeCasts_S256x1024_S256x1024)
    (shapeCast S1024x1024 w shapeCasts_S1024x1024_S1024x1024) (constant S256x1024 .f32 0x00000000#32)
/-- A partial sum as it is kept in a slot. -/
def pack (y : FVec F S256x1024 .f32) : Vec F S1x256x1024 .bf16 :=
  shapeCast S1x256x1024 (truncf .bf16 y bitsLt_bf16_f32 : FVec F S256x1024 .bf16) shapeCasts_S256x1024_S1x256x1024
/-- The partial sum read from a slot. -/
def unpack (v : Vec F S1x256x1024 .bf16) : FVec F S256x1024 .f32 :=
  extf .f32 (shapeCast S256x1024 v shapeCasts_S1x256x1024_S256x1024 : FVec F S256x1024 .bf16) bitsLt_bf16_f32
/-- The first term of a partial sum. -/
def first (x : Vec F S256x1024 .f32) (w : Vec F S1024x1024 .f32) : Vec F S1x256x1024 .bf16 := pack (mm x w)
/-- A received partial sum with the own term added. -/
def accum (v : Vec F S1x256x1024 .bf16) (x : Vec F S256x1024 .f32) (w : Vec F S1024x1024 .f32) : FVec F S256x1024 .f32 :=
  addf (unpack v) (mm x w)
/-- What is kept and sent on after a middle hop. -/
def next (v : Vec F S1x256x1024 .bf16) (x : Vec F S256x1024 .f32) (w : Vec F S1024x1024 .f32) : Vec F S1x256x1024 .bf16 :=
  pack (accum v x w)
/-- The activation, as the kernel computes it. -/
def gelu (y : FVec F S256x1024 .f32) : FVec F S256x1024 .f32 :=
  mulf (mulf (broadcast S256x1024 (Scalar.ofBits .f32 0x3F000000#32 : F .f32)) y)
    (addf (broadcast S256x1024 (Scalar.ofBits .f32 0x3F800000#32 : F .f32))
      (tanh (mulf (broadcast S256x1024 (Scalar.ofBits .f32 0x3F4C422A#32 : F .f32))
        (addf y (mulf (mulf (mulf (broadcast S256x1024 (Scalar.ofBits .f32 0x3D372713#32 : F .f32)) y) y) y)))))
/-- The last step: the complete sum through the activation. -/
def final (v : Vec F S1x256x1024 .bf16) (x : Vec F S256x1024 .f32) (w : Vec F S1024x1024 .f32) : FVec F S256x1024 .f32 :=
  gelu (accum v x w)

variable (m : (ℓ : Loc nD τ sig) → Buf (Elt F) ℓ) (ρ : Dev nD → PrngReg)

/-- The state at the start: counters zero. -/
def s₀ : MemSt nD τ sig (Elt F) := ⟨m, fun _ => 0, ρ⟩

/-- The two operands as a device's kernel finds them. -/
def xstg (c : Dev nD) : (cc0_stg0_0 : Ref sig .tc).ty.Contents (Elt F) :=
  (win0_0.blk (0 : Fin 1)).view.read (Elt F) ((s₀ m ρ).mem ((c : Thread nD τ).loc main_arg0))
/-- The second operand as the kernel finds it. -/
def wstg (c : Dev nD) : (cc0_stg1_0 : Ref sig .tc).ty.Contents (Elt F) :=
  (win0_1.blk (0 : Fin 1)).view.read (Elt F) ((s₀ m ρ).mem ((c : Thread nD τ).loc main_arg1))

/-- The row block whose partial sum device `c` handles in slot plane `j`. -/
def chunk : Bool → ℕ → Dev nD → ℕ
  | false, j, c => (c.val + (3 - j) + 4) % 4
  | true, j, c => (c.val + 1 + j) % 4
/-- There are four row blocks. -/
theorem chunk_lt (b : Bool) (j : ℕ) (c : Dev nD) : chunk b j c < 4 := by cases b <;> exact Nat.mod_lt _ (by decide)

/-- Where that row tile starts. -/
def xOff (b : Bool) (j : ℕ) (c : Dev nD) (t : ℕ) : Fin 2 → ℕ := ![1024 * chunk b j c + 256 * (t % 4), 0]
/-- It lies inside the operand. -/
theorem x_inb (b : Bool) (j : ℕ) (c : Dev nD) (t : ℕ) : ∀ i, xOff b j c t i + S256x1024.size i ≤ S4096x1024.size i := by
  intro i
  have h1 := chunk_lt b j c
  have h2 : t % 4 < 4 := Nat.mod_lt _ (by decide)
  fin_cases i
  · show 1024 * chunk b j c + 256 * (t % 4) + 256 ≤ 4096; omega
  · show 0 + 1024 ≤ 1024; omega
/-- The row tile of `x` device `c` uses for slot plane `j`, tile `t`. -/
abbrev xrows (b : Bool) (j : ℕ) (c : Dev nD) (t : ℕ) : Vec F S256x1024 .f32 :=
  (xM.access (Rect.unit (s := S4096x1024) (xOff b j c t) S256x1024.size (x_inb b j c t))).read (Elt F) (xstg m ρ c)

/-- Where a column half starts. -/
def wOff (b : Bool) : Fin 2 → ℕ := ![0, if b then 1024 else 0]
/-- It lies inside the operand. -/
theorem w_inb (b : Bool) : ∀ i, wOff b i + S1024x1024.size i ≤ S1024x2048.size i := by revert b; decide +kernel
/-- The half of the columns of `w` a direction uses. -/
abbrev wcols (b : Bool) (c : Dev nD) : Vec F S1024x1024 .f32 :=
  (wM.access (Rect.unit (s := S1024x2048) (wOff b) S1024x1024.size (w_inb b))).read (Elt F) (wstg m ρ c)

/-- What device `c` keeps (and sends on) in plane `j`: its own first term, or what came in with its own term added. -/
def val (b : Bool) (t : ℕ) : ℕ → Dev nD → Vec F S1x256x1024 .bf16
  | 0, c => first (xrows m ρ b 0 c t) (wcols m ρ b c)
  | j + 1, c => next (val b t j (bwd b c)) (xrows m ρ b (j + 1) c t) (wcols m ρ b c)

/-- The contents transfer `n` of device `c` carries. -/
def sent (c : Dev nD) (n : ℕ) : Vec F S1x256x1024 .bf16 := val m ρ (dirOf n) (tileOf n) (n / 8) c
/-- The contents that land on device `c` by transfer `n`. -/
def got (c : Dev nD) (n : ℕ) : Vec F S1x256x1024 .bf16 := sent m ρ (bwd (dirOf n) c) n

/-- The operand tiles of number `n`. -/
abbrev xN (c : Dev nD) (n : ℕ) : Vec F S256x1024 .f32 := xrows m ρ (dirOf n) (n / 8) c (tileOf n)
/-- The column half of number `n`. -/
abbrev wN (c : Dev nD) (n : ℕ) : Vec F S1024x1024 .f32 := wcols m ρ (dirOf n) c

/-- The first hop carries first terms. -/
theorem sent_first (c : Dev nD) {n : ℕ} (h : n < 8) : sent m ρ c n = first (xN m ρ c n) (wN m ρ c n) := by
  have h0 : n / 8 = 0 := by omega
  simp only [sent, xN, wN, h0, val]
/-- A later hop carries what came in with the own term added. -/
theorem sent_next (c : Dev nD) (n : ℕ) : sent m ρ c (n + 8) = next (got m ρ c n) (xN m ρ c (n + 8)) (wN m ρ c (n + 8)) := by
  have ht : tileOf (n + 8) = tileOf n := by unfold tileOf; omega
  have h8 : (n + 8) / 8 = n / 8 + 1 := by omega
  simp only [got, sent, xN, wN, dirOf_add8, ht, h8, val]
/-- The tile of the result made when transfer `n` has come in. -/
def res (c : Dev nD) (n : ℕ) : FVec F S256x1024 .f32 := final (got m ρ c n) (xN m ρ c (n + 8)) (wN m ρ c (n + 8))

end Cert.RingProof

end
-- ==== Proof.Sched.lean ====
/-
# Families over initial segments, slots, and the schedule of the cells

Every cell has one round. A barrier cell has two duties, one per direction: the neighbour that pays it hands
over the slots the ring transfers of that direction land in. A receive cell is paid by the transfer's landing, with the
landed slot and its contents; a send cell by the transfer's completion, with the source slot.
-/
module

public import proofs.«01_k».proof.Proof.Setup

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over initial segments of the numbers -/

section Range

omit [FloatOps F] in
theorem fam_insert {i : ℕ} {s : Finset ℕ} (h : i ∉ s) {Φ : ℕ → sProp 𝕄} : bigSep (insert i s) Φ = iprop(Φ i ∗ bigSep s Φ) := bigSep_insert h
omit [FloatOps F] in
theorem fam_erase {i : ℕ} {s : Finset ℕ} (h : i ∈ s) {Φ : ℕ → sProp 𝕄} : bigSep s Φ = iprop(Φ i ∗ bigSep (s.erase i) Φ) := bigSep_erase h

omit [FloatOps F] in
theorem sep_swap (A B C : sProp 𝕄) : iprop(A ∗ B ∗ C) = iprop(B ∗ A ∗ C) := by
  have h : ∀ A B : sProp 𝕄, iprop(A ∗ B ∗ C) ⊢ iprop(B ∗ A ∗ C) := fun A B => by
    iintro ⟨H1, H2, H3⟩
    isplitl [H2]; · iexact H2
    isplitl [H1] <;> iassumption
  exact BI.Entails.antisymm (h A B) (h B A)
omit [FloatOps F] in
theorem sep_group (A B C : sProp 𝕄) : iprop(A ∗ B ∗ C) = iprop((A ∗ B) ∗ C) := by
  have h1 : iprop(A ∗ B ∗ C) ⊢ iprop((A ∗ B) ∗ C) := by
    iintro ⟨H1, H2, H3⟩
    isplitr [H3]; · isplitl [H1] <;> iassumption
    iexact H3
  have h2 : iprop((A ∗ B) ∗ C) ⊢ iprop(A ∗ B ∗ C) := by
    iintro ⟨⟨H1, H2⟩, H3⟩
    isplitl [H1]; · iexact H1
    isplitl [H2] <;> iassumption
  exact BI.Entails.antisymm h1 h2

omit [FloatOps F] in
theorem range_add (a b : ℕ) (Φ : ℕ → sProp 𝕄) :
    bigSep (Finset.range (a + b)) Φ = iprop(bigSep (Finset.range a) Φ ∗ bigSep (Finset.range b) fun n => Φ (a + n)) := by
  induction b with
  | zero =>
    rw [Nat.add_zero, Finset.range_zero, bigSep_empty]
    exact (equiv_iff.mp sep_emp).symm
  | succ b ih =>
    rw [← Nat.add_assoc, Finset.range_add_one, fam_insert Finset.notMem_range_self, ih, Finset.range_add_one, fam_insert Finset.notMem_range_self]
    exact sep_swap _ _ _

omit [FloatOps F] in
/-- A family over the numbers below `2 * a`, its even and its odd members apart. -/
theorem range_double (a : ℕ) (Φ : ℕ → sProp 𝕄) :
    bigSep (Finset.range (2 * a)) Φ
      = iprop((bigSep (Finset.range a) fun n => Φ (2 * n)) ∗ bigSep (Finset.range a) fun n => Φ (2 * n + 1)) := by
  rw [← bigSep_sep']
  induction a with
  | zero => rw [Nat.mul_zero, Finset.range_zero, bigSep_empty, bigSep_empty]
  | succ a ih =>
    rw [show 2 * (a + 1) = 2 * a + 1 + 1 by omega, Finset.range_add_one, fam_insert Finset.notMem_range_self, Finset.range_add_one,
      fam_insert Finset.notMem_range_self, ih, Finset.range_add_one, fam_insert Finset.notMem_range_self]
    exact (sep_swap _ _ _).trans (sep_group _ _ _)

omit [FloatOps F] in
/-- A family over a finite index type as one over the numbers below its size. -/
theorem univ_range (a : ℕ) (Φ : ℕ → sProp 𝕄) :
    (bigSep (Finset.univ : Finset (Fin a)) fun k => Φ k.val) = bigSep (Finset.range a) Φ := by
  have h : Finset.range a = (Finset.univ : Finset (Fin a)).map Fin.valEmbedding := by
    ext n; simp only [Finset.mem_range, Finset.mem_map, Finset.mem_univ, true_and, Fin.valEmbedding_apply]
    exact ⟨fun h => ⟨⟨n, h⟩, rfl⟩, fun ⟨k, hk⟩ => hk ▸ k.isLt⟩
  rw [h, bigSep_map]; rfl

/-- A family of which the members below `k` are in their later state, the others in their earlier one. -/
def table (a : ℕ) (Pre Post : ℕ → sProp 𝕄) (k : ℕ) : sProp 𝕄 :=
  bigSep (Finset.range a) fun n => if n < k then Post n else Pre n

omit [FloatOps F] in
theorem table_zero (a : ℕ) (Pre Post : ℕ → sProp 𝕄) : table a Pre Post 0 = bigSep (Finset.range a) Pre :=
  bigSep_congr fun n _ => if_neg (Nat.not_lt_zero n)
omit [FloatOps F] in
theorem table_full (a : ℕ) (Pre Post : ℕ → sProp 𝕄) : table a Pre Post a = bigSep (Finset.range a) Post :=
  bigSep_congr fun n h => if_pos (Finset.mem_range.mp h)
omit [FloatOps F] in
/-- The next member can be taken out, and put back in its later state. -/
theorem table_step (a : ℕ) (Pre Post : ℕ → sProp 𝕄) {k : ℕ} (h : k < a) :
    table a Pre Post k ⊢ iprop(Pre k ∗ (Post k -∗ table a Pre Post (k + 1))) := by
  unfold table
  rw [fam_erase (Finset.mem_range.mpr h), fam_erase (Finset.mem_range.mpr h) (Φ := fun n => if n < k + 1 then Post n else Pre n),
    if_neg (Nat.lt_irrefl k), if_pos (Nat.lt_succ_self k),
    bigSep_congr (s := (Finset.range a).erase k) (Φ := fun n => if n < k + 1 then Post n else Pre n) (Ψ := fun n => if n < k then Post n else Pre n)
      fun n hn => by
        have := (Finset.mem_erase.mp hn).1
        by_cases h1 : n < k
        · rw [if_pos h1, if_pos (by omega)]
        · rw [if_neg h1, if_neg (by omega)]]
  iintro ⟨H1, H2⟩
  isplitl [H1]; · iexact H1
  iintro H3
  isplitl [H3] <;> iassumption

end Range

/-! ## Slots -/

/-- Device `c` owns slot `n` and it holds `v`. -/
def slot (c : Dev nD) (n : ℕ) (v : Vec F S1x256x1024 .bf16) : sProp 𝕄 :=
  iprop(∃ f : Buf (Elt F) ((slotM n).view.loc (c : Thread nD τ)), ⌜(slotV n).read (Elt F) f = v⌝
    ∗ (slotM n).view.loc (c : Thread nD τ) ↦[(slotM n).view.set]{fullShare} f)
/-- Device `c` owns slot `n`. -/
def slotE (c : Dev nD) (n : ℕ) : sProp 𝕄 := iprop(∃ v : Vec F S1x256x1024 .bf16, slot c n v)

omit [FloatOps F] in
instance slot_storable (c : Dev nD) (n : ℕ) (v : Vec F S1x256x1024 .bf16) : BI.Storable (upEmb : UEmb _ 𝕄) (slot c n v) := by
  unfold slot; infer_instance
omit [FloatOps F] in
instance slotE_storable (c : Dev nD) (n : ℕ) : BI.Storable (upEmb : UEmb _ 𝕄) (slotE (F := F) c n) := by
  unfold slotE; infer_instance

omit [FloatOps F] in
theorem slotM_set (n : ℕ) : (slotM n).view.set = (slotV n).set := View.set_reshape _ _
omit [FloatOps F] in
/-- A slot owned whose contents are known, from the elements it is made of. -/
theorem slot_intro (c : Dev nD) (n : ℕ) (f : Buf (Elt F) ((slotM n).view.loc (c : Thread nD τ))) (v : Vec F S1x256x1024 .bf16)
    (h : (slotV n).read (Elt F) f = v) : ((slotM n).view.loc (c : Thread nD τ) ↦[(slotM n).view.set]{fullShare} f : sProp 𝕄) ⊢ slot c n v := by
  unfold slot
  iintro H; iexists f; isplitr; · ipureintro; exact h
  iexact H

omit [FloatOps F] in
/-- A slot owned, as the loads and stores reach it. -/
theorem slot_eq (c : Dev nD) (n : ℕ) (v : Vec F S1x256x1024 .bf16) : slot c n v
    = iprop(∃ f : Buf (Elt F) ((slotV n).loc (c : Thread nD τ)), ⌜(slotV n).read (Elt F) f = v⌝
      ∗ (slotV n).loc (c : Thread nD τ) ↦[(slotV n).set]{fullShare} f) := by
  unfold slot; rw [slotM_set]

omit [FloatOps F] in
/-- What a transfer from slot `n` to slot `n'` leaves there reads as the source did. -/
theorem slot_moved (n n' : ℕ) (fs : (slotV n).ty.Contents (Elt F)) (fd : (slotV n').ty.Contents (Elt F)) :
    (slotV n').read (Elt F) ((slotM n').view.write (Elt F) fd ((slotM n).view.read (Elt F) fs) Finset.univ) = (slotV n).read (Elt F) fs := by
  have e := View.read_write_univ (Val := Elt F) (v := (slotM n').view) fd ((slotM n).view.read (Elt F) fs)
  have hh : S256x1024.numel = S1x256x1024.numel := (squeezes_S1x256x1024_S256x1024).numel_eq
  funext x
  have e' := congrFun e ((Shape.reshapeEquiv hh).symm x)
  have r1 : ∀ (k : ℕ) (f : (slotV k).ty.Contents (Elt F)) (y : S256x1024.Idx), (slotM k).view.read (Elt F) f y = (slotV k).read (Elt F) f (Shape.reshapeEquiv hh y) :=
    fun k f y => rfl
  rw [r1, r1, Equiv.apply_symm_apply] at e'
  exact e'

/-! ## The schedule -/

/-- What the barrier cell of `d` receives for direction `b`: the slots on `d`'s neighbour in that direction in which `d`'s transfers land. -/
def barPay (d : Dev nD) (b : Bool) : sProp 𝕄 :=
  bigSep (Finset.range 24) fun n => if dirOf n = b then slotE (F := F) (fwd b d) (n + 8) else iprop(emp)
omit [FloatOps F] in
instance barPay_storable (d : Dev nD) (b : Bool) : BI.Storable (upEmb : UEmb _ 𝕄) (barPay (F := F) d b) := by
  unfold barPay
  haveI : ∀ n, BI.Storable (upEmb : UEmb _ 𝕄) (if dirOf n = b then slotE (F := F) (fwd b d) (n + 8) else iprop(emp)) := fun n => by
    split <;> infer_instance
  infer_instance

/-- The semaphores of the transfers. -/
def isXfer : SemLoc sig → Bool
  | .dma q => decide (3 ≤ q.val)
  | .reg _ => false

/-- What a transfer's cell receives. -/
def dmaPay (d : Dev nD) (q : DmaSem sig) : sProp 𝕄 :=
  if isSend q then slot d (numOf q) (sent m ρ d (numOf q)) else slot d (numOf q + 8) (got m ρ d (numOf q))
instance dmaPay_storable (d : Dev nD) (q : DmaSem sig) : BI.Storable (upEmb : UEmb _ 𝕄) (dmaPay m ρ d q) := by
  unfold dmaPay; split <;> infer_instance
/-- What a cell receives. -/
def pay (d : Dev nD) (b : Bool) : SemLoc sig → sProp 𝕄
  | .dma q => dmaPay m ρ d q
  | .reg _ => barPay d b
instance pay_storable (d : Dev nD) (b : Bool) (s : SemLoc sig) : BI.Storable (upEmb : UEmb _ 𝕄) (pay m ρ d b s) := by
  cases s <;> unfold pay <;> infer_instance

/-- The schedule: one round a cell, two duties on a barrier cell, one on a transfer's. -/
def rd : Rounds.Schedule (GSem nD τ sig) Bool 𝕄 where
  duties g r := if r = 0 ∧ g.1.2 = .tc ∧ g.2 = .reg barS then Finset.univ else if r = 0 ∧ g.1.2 = .tc ∧ isXfer g.2 then {false} else ∅
  unitless _ := False
  amount g _ _ := if g.2 = .reg barS then 1 else N
  payload g _ d := pay m ρ g.1.1 d g.2
  amount_pos g _ _ _ := by
    by_cases h : g.2 = .reg barS
    · rw [if_pos h]; exact Nat.one_pos
    · rw [if_neg h]; exact N_pos

instance rd_payload_storable (g : GSem nD τ sig) (r : ℕ) (d : Bool) : BI.Storable (upEmb : UEmb _ 𝕄) ((rd m ρ).payload g r d) :=
  pay_storable m ρ g.1.1 d g.2

section Sched
variable (c : Dev nD)

/-- A barrier cell has both duties. -/
theorem duties_bar : (rd m ρ).duties (barCell c) 0 = Finset.univ := by dsimp only [rd]; exact if_pos ⟨rfl, rfl, rfl⟩
/-- A transfer's cell has one duty. -/
theorem duties_xfer (q : DmaSem sig) (hq : 3 ≤ q.val) : (rd m ρ).duties ((c : Thread nD τ), .dma q) 0 = {false} := by
  dsimp only [rd]; rw [if_neg (fun h => by cases h.2.2)]
  exact if_pos ⟨rfl, rfl, decide_eq_true hq⟩
/-- No cell has a second round. -/
theorem duties_later (g : GSem nD τ sig) : ∀ r, 1 ≤ r → (rd m ρ).duties g r = ∅ :=
  fun r hr => by dsimp only [rd]; rw [if_neg fun h => by omega, if_neg fun h => by omega]
/-- The one duty of a transfer's cell is among its duties. -/
theorem mem_duties (q : DmaSem sig) (hq : 3 ≤ q.val) : false ∈ (rd m ρ).duties ((c : Thread nD τ), .dma q) 0 := by
  rw [duties_xfer m ρ c q hq]; exact Finset.mem_singleton_self _

/-- A barrier duty counts one. -/
theorem amount_bar (d : Bool) : (rd m ρ).amount (barCell c) 0 d = 1 := by dsimp only [rd]; exact if_pos rfl
/-- A transfer's duty counts one landing. -/
theorem amount_xfer (q : DmaSem sig) (d : Bool) : (rd m ρ).amount ((c : Thread nD τ), .dma q) 0 d = N := by
  dsimp only [rd]; exact if_neg (fun h => by cases h)

/-- The barrier expects two. -/
theorem expect_bar : (rd m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- A transfer's cell expects one landing. -/
theorem expect_xfer (q : DmaSem sig) (hq : 3 ≤ q.val) : (rd m ρ).expect ((c : Thread nD τ), .dma q) 0 = N := by
  unfold Schedule.expect Schedule.amountOf; rw [duties_xfer m ρ c q hq, Finset.sum_singleton, amount_xfer]

/-- What a barrier duty hands over. -/
theorem payload_bar (b : Bool) : (rd m ρ).payload (barCell c) 0 b = barPay c b := rfl
/-- A send duty hands the source slot back. -/
theorem payload_send {n : ℕ} (h : n < 24) (d : Bool) : (rd m ρ).payload (sCell c n) 0 d = slot c n (sent m ρ c n) := by
  show dmaPay m ρ c (sS n) = _
  unfold dmaPay; rw [isSend_sS h, if_pos rfl, num_sS h]
/-- A receive duty hands over the target slot with what landed. -/
theorem payload_recv {n : ℕ} (h : n < 24) (d : Bool) : (rd m ρ).payload (vCell c n) 0 d = slot c (n + 8) (got m ρ c n) := by
  show dmaPay m ρ c (sV n) = _
  unfold dmaPay; rw [isSend_sV h, if_neg Bool.false_ne_true, num_sV h]

/-- Both neighbours' signals together bring every slot the device's transfers land in. -/
theorem rest_bar : bigSep ((rd m ρ).duties (barCell c) 0 \ ∅) (fun d => (rd m ρ).payload (barCell c) 0 d)
    ⊢ (bigSep (Finset.range 24) fun n => slotE (F := F) (fwd (dirOf n) c) (n + 8) : sProp 𝕄) := by
  rw [Finset.sdiff_empty, duties_bar, bigSep_univ_eq_bigSepL [false, true] (by decide) (by decide), bigSepL_cons_cons, bigSepL_singleton,
    payload_bar, payload_bar]
  unfold barPay
  refine (Entails.of_eq (bigSep_sep' _ _ _).symm).trans (bigSep_mono fun n _ => ?_)
  rcases h : dirOf n with _ | _
  · rw [if_pos rfl, if_neg Bool.false_ne_true]; exact sep_emp.1
  · rw [if_pos rfl, if_neg (by decide)]; exact emp_sep.1
/-- A device's own landing slots, dealt to its two neighbours. -/
theorem bar_split : (bigSep (Finset.range 24) fun n => slotE (F := F) c (n + 8) : sProp 𝕄) ⊢ iprop(barPay (prv c) false ∗ barPay (nxt c) true) := by
  unfold barPay
  refine BI.Entails.trans (bigSep_mono fun n _ => ?_) (Entails.of_eq (bigSep_sep' _ _ _))
  show slotE c (n + 8) ⊢ iprop((if dirOf n = false then slotE (nxt (prv c)) (n + 8) else emp) ∗ (if dirOf n = true then slotE (prv (nxt c)) (n + 8) else emp))
  rw [nxt_prv, prv_nxt]
  rcases h : dirOf n with _ | _
  · rw [if_pos rfl, if_neg Bool.false_ne_true]; iintro H; isplitl [H]; · iexact H
    iempintro
  · rw [if_pos rfl, if_neg (by decide)]; iintro H; isplitr; · iempintro
    iexact H
/-- What a transfer's cell hands over in all is what its one duty hands over. -/
theorem rest_xfer (q : DmaSem sig) (hq : 3 ≤ q.val) :
    bigSep ((rd m ρ).duties ((c : Thread nD τ), .dma q) 0 \ ∅) (fun d => (rd m ρ).payload ((c : Thread nD τ), .dma q) 0 d)
      = (rd m ρ).payload ((c : Thread nD τ), .dma q) 0 false := by
  rw [Finset.sdiff_empty, duties_xfer m ρ c q hq, bigSep_singleton]

end Sched

/-! ## What each device owes; the levels -/

/-- The credits of the landings from transfer `k` on. -/
def owe (c : Dev nD) (k : ℕ) : CellTallies nD τ sig Unit := ∑ n ∈ Finset.Ico k 24, tallyAt (vCell (fwd (dirOf n) c) n) () N
/-- What a device owes after its first signal. -/
def O₁ (c : Dev nD) : CellTallies nD τ sig Unit := owe c 0 + tallyAt (barCell (nxt c)) () 1
/-- What a device owes at the start. -/
def O₀ (c : Dev nD) : CellTallies nD τ sig Unit := O₁ c + tallyAt (barCell (prv c)) () 1

/-- Transfer `k` pays the first of what is owed from `k` on. -/
theorem owe_step (c : Dev nD) {k : ℕ} (h : k < 24) : owe c k = owe c (k + 1) + tallyAt (vCell (fwd (dirOf k) c) k) () N := by
  have e : Finset.Ico k 24 = insert k (Finset.Ico (k + 1) 24) := by
    ext n; simp only [Finset.mem_Ico, Finset.mem_insert]; omega
  unfold owe; rw [e, Finset.sum_insert (by simp), add_comm]
/-- After 24 transfers nothing is owed. -/
theorem owe_done (c : Dev nD) : owe c 24 = 0 := by unfold owe; rw [Finset.Ico_self, Finset.sum_empty]

/-- Every cell of a TensorCore has its one level label. -/
def L (g : GSem nD τ sig) : Finset Unit := if g.1.2 = .tc then {()} else ∅
/-- The level of a semaphore: staging and send semaphores lowest, then the barrier, then the receives in program order. -/
def lvS : SemLoc sig → ℕ
  | .reg _ => 1
  | .dma q => if 3 ≤ q.val ∧ isSend q = false then 2 + numOf q else 0
/-- The level of a cell. -/
def lv (g : GSem nD τ sig) (_ : Unit) : ℕ := lvS g.2

/-- Other cores have no labels. -/
theorem L_of_ne (g : GSem nD τ sig) (h : g.1.2 ≠ .tc) : L g = ∅ := if_neg h
/-- A TensorCore's cells have the one label. -/
theorem L_tc (c : Dev nD) (sm : SemLoc sig) : L ((c : Thread nD τ), sm) = {()} := if_pos rfl
/-- The level of a receive cell grows with its number. -/
theorem lv_recv (c : Dev nD) {n : ℕ} (h : n < 24) : lv (vCell c n) () = 2 + n := by
  show (if 3 ≤ (sV n).val ∧ isSend (sV n) = false then 2 + numOf (sV n) else 0) = _
  rw [if_pos ⟨le_sV h, isSend_sV h⟩, num_sV h]

/-- What is owed from `k` on goes to receive cells of numbers from `k` on. -/
theorem owe_pos {c : Dev nD} {k : ℕ} {g : GSem nD τ sig} {u : Unit} (h : 0 < owe c k g u) :
    ∃ n, k ≤ n ∧ n < 24 ∧ g = vCell (fwd (dirOf n) c) n := by
  unfold owe at h
  rw [Finset.sum_apply, Finsupp.finset_sum_apply] at h
  obtain ⟨n, hn, hp⟩ := Finset.exists_ne_zero_of_sum_ne_zero (Nat.pos_iff_ne_zero.mp h)
  refine ⟨n, (Finset.mem_Ico.mp hn).1, (Finset.mem_Ico.mp hn).2, ?_⟩
  by_contra hc
  exact hp (by rw [tallyAt_apply, if_neg (fun h' => hc h'.1)])
/-- What is owed at the start goes to barrier cells and receive cells. -/
theorem O₀_pos {c : Dev nD} {g : GSem nD τ sig} {u : Unit} (h : 0 < O₀ c g u) :
    (∃ n, 0 ≤ n ∧ n < 24 ∧ g = vCell (fwd (dirOf n) c) n) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1)] at h
  simp only [Nat.add_zero] at h
  exact hn.1 (owe_pos h)

omit [FloatOps F] in
/-- A wait at level `l` may be entered while the landings from transfer `k` on are owed, if those are above. -/
theorem mayWait_owe (c : Dev nD) (sm : SemLoc sig) (l k : ℕ) (hl : lvS sm ≤ l) (hk : l < 2 + k) :
    (levAts L lv : sProp 𝕄) ⊢ MayWait (c : Thread nD τ) sm () (owe c k) :=
  MayOwe.of_cut (L := L) (lev := lv) l (fun p hp => by rw [Finset.mem_singleton.mp hp, L_tc]; exact Finset.mem_singleton_self _)
    (fun g u hg => by obtain ⟨n, _, _, rfl⟩ := owe_pos hg; exact Finset.mem_singleton_self _)
    (fun p hp => by rw [Finset.mem_singleton.mp hp]; exact hl)
    (fun g u hg => by obtain ⟨n, h1, h2, rfl⟩ := owe_pos hg; rw [lv_recv _ h2]; omega)
omit [FloatOps F] in
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨n, _, _, rfl⟩ | rfl | rfl <;> exact Finset.mem_singleton_self _)
      (fun p hp => by rw [Finset.mem_singleton.mp hp]; exact hq.le)
      (fun g u hg => by
        rcases O₀_pos hg with ⟨n, _, h2, rfl⟩ | rfl | rfl
        · rw [lv_recv _ h2]; omega
        · exact Nat.one_pos
        · exact Nat.one_pos)
  · rw [MayWait_zero]; iintro -; iempintro

end Cert.RingProof

end
-- ==== Proof.Steps.lean ====
/-
# One step of the ring, as a rule for the program

The body consists of four kinds of steps: making a first term and sending it; receiving a partial sum, adding the own
term and sending it on; receiving a complete partial sum and storing its tile of the result; waiting for a send. Each
kind has one rule here, for every number.
-/
module

public import proofs.«01_k».proof.Proof.Sched

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop variants: the kernel has no loops. -/
abbrev 𝒱₀ : Variants := Variants.none

/-! ## The cells by number, and what is known of them -/

/-- A device's semaphores: the barrier, the 24 send semaphores, the 24 receive semaphores. -/
def semOf (k : ℕ) : SemLoc sig := if k = 0 then .reg barS else if k < 25 then .dma (sS (k - 1)) else .dma (sV (k - 25))
/-- Cell `k` of a device. -/
abbrev kc (c : Dev nD) (k : ℕ) : GSem nD τ sig := ((c : Thread nD τ), semOf k)
/-- Cell 0 is the barrier's. -/
theorem kc_bar (c : Dev nD) : kc c 0 = barCell c := rfl
/-- Cells 1 to 24 are the sends'. -/
theorem kc_send (c : Dev nD) {n : ℕ} (h : n < 24) : kc c (1 + n) = sCell c n := by
  unfold kc semOf; rw [if_neg (by omega), if_pos (by omega), Nat.add_sub_cancel_left]
/-- Cells 25 to 48 are the receives'. -/
theorem kc_recv (c : Dev nD) (n : ℕ) : kc c (25 + n) = vCell c n := by
  unfold kc semOf; rw [if_neg (by omega), if_neg (by omega), Nat.add_sub_cancel_left]

variable (K : Dev nD → ℕ → ℕ)

/-- Every cell's invariant is allocated and every cell has reached its round. -/
def recs : sProp 𝕄 :=
  bigSep Finset.univ fun c : Dev nD => bigSep (Finset.range 49) fun k =>
    iprop(cellInv ER (rd m ρ) (K c k) (kc c k) ∗ reached ER (kc c k) 0)
instance recs_persistent : BI.Persistent (recs m ρ K) := by
  unfold recs
  haveI : ∀ c : Dev nD, BI.Persistent (bigSep (Finset.range 49) fun k =>
    (iprop(cellInv ER (rd m ρ) (K c k) (kc c k) ∗ reached ER (kc c k) 0) : sProp 𝕄)) := fun c => by infer_instance
  infer_instance

/-- One cell's record, from the records of all. -/
theorem rec_at (c : Dev nD) {k : ℕ} (h : k < 49) :
    recs m ρ K ⊢ iprop(cellInv ER (rd m ρ) (K c k) (kc c k) ∗ reached ER (kc c k) 0) := by
  unfold recs
  exact (bigSep_elim (Finset.mem_univ c)).trans (bigSep_elim (Finset.mem_range.mpr h))
/-- The barrier cell's record. -/
theorem inv_bar (c : Dev nD) : recs m ρ K ⊢ iprop(cellInv ER (rd m ρ) (K c 0) (barCell c) ∗ reached ER (barCell c) 0) :=
  rec_at m ρ K c (by decide)
/-- A send cell's record. -/
theorem inv_send (c : Dev nD) {n : ℕ} (h : n < 24) :
    recs m ρ K ⊢ iprop(cellInv ER (rd m ρ) (K c (1 + n)) (sCell c n) ∗ reached ER (sCell c n) 0) := by
  rw [← kc_send c h]; exact rec_at m ρ K c (by omega)
/-- A receive cell's record. -/
theorem inv_recv (c : Dev nD) {n : ℕ} (h : n < 24) :
    recs m ρ K ⊢ iprop(cellInv ER (rd m ρ) (K c (25 + n)) (vCell c n) ∗ reached ER (vCell c n) 0) := by
  rw [← kc_recv c n]; exact rec_at m ρ K c (by omega)

/-! ## The states of the body -/

/-- What every step may use again and again: the records and the levels. -/
def base : sProp 𝕄 := iprop(recs m ρ K ∗ levAts L lv)
instance base_persistent : BI.Persistent (base m ρ K) := by unfold base; infer_instance

/-- The first operand, staged. -/
def xP (c : Dev nD) : sProp 𝕄 := ((c : Thread nD τ).loc cc0_stg0_0) ↦{fullShare} xstg m ρ c
/-- The second operand, staged. -/
def wP (c : Dev nD) : sProp 𝕄 := ((c : Thread nD τ).loc cc0_stg1_0) ↦{fullShare} wstg m ρ c
/-- The result buffer at contents `f`. -/
def oP (c : Dev nD) (f : (cc0_stg2_0 : Ref sig .tc).ty.Contents (Elt F)) : sProp 𝕄 := ((c : Thread nD τ).loc cc0_stg2_0) ↦{fullShare} f
/-- The duties `O` are still owed. -/
def owesE (c : Dev nD) (O : CellTallies nD τ sig Unit) : sProp 𝕄 := iprop(∃ W : Waits sig Unit, owes (c : Thread nD τ) O W)

/-- Transfer `n` before it starts: the two duties it pays and the slot it lands in. -/
def sendPre (c : Dev nD) (n : ℕ) : sProp 𝕄 :=
  iprop(dutyTok ER (sCell c n) 0 false ∗ dutyTok ER (vCell (fwd (dirOf n) c) n) 0 false ∗ slotE (fwd (dirOf n) c) (n + 8))
/-- Transfer `n` under way: the credit its send wait spends. -/
def sendPost (c : Dev nD) (n : ℕ) : sProp 𝕄 := cred (tallyAt (sCell c n) () N)
/-- What the wait for transfer `n` consumes. -/
def recvPre (c : Dev nD) (n : ℕ) : sProp 𝕄 := iprop(atPos ER (vCell c n) 0 ∅ 0 ∗ cred (tallyAt (vCell c n) () N))
/-- Transfer `n` received; the slots of the last plane stay with the device. -/
def recvPost (c : Dev nD) (n : ℕ) : sProp 𝕄 :=
  iprop(atPos ER (vCell c n) (0 + 1) ∅ 0 ∗ if 16 ≤ n then slotE c (n + 8) else emp)
/-- What the final wait for transfer `n`'s send consumes. -/
def waitPre (c : Dev nD) (n : ℕ) : sProp 𝕄 := iprop(atPos ER (sCell c n) 0 ∅ 0 ∗ cred (tallyAt (sCell c n) () N))
/-- What that wait gives back. -/
def waitPost (c : Dev nD) (n : ℕ) : sProp 𝕄 := iprop(atPos ER (sCell c n) (0 + 1) ∅ 0 ∗ slotE c n)

/-- Before step `n` of the first terms. -/
def P1 (c : Dev nD) (n : ℕ) : sProp 𝕄 :=
  iprop(base m ρ K ∗ table 24 (sendPre c) (sendPost c) n ∗ table 8 (slotE c) (fun _ => iprop(emp)) n ∗ xP m ρ c ∗ wP m ρ c ∗ owesE c (owe c n))
/-- Before the step that receives transfer `r` and sends transfer `r + 8`. -/
def P2 (c : Dev nD) (r : ℕ) : sProp 𝕄 :=
  iprop(base m ρ K ∗ table 24 (sendPre c) (sendPost c) (r + 8) ∗ table 24 (recvPre c) (recvPost c) r ∗ xP m ρ c ∗ wP m ρ c ∗ owesE c (owe c (r + 8)))

/-- Where the tile of the result made from transfer `n` starts. -/
def outOff (n : ℕ) : Fin 2 → ℕ := ![256 * (n / 2 % 4), 1024 * (n % 2)]
/-- The result tiles lie inside the result. -/
theorem out_inb (n : ℕ) : ∀ i, outOff n i + S256x1024.size i ≤ S1024x2048.size i := by
  intro i
  have h1 : n / 2 % 4 < 4 := Nat.mod_lt _ (by decide)
  have h2 : n % 2 < 2 := Nat.mod_lt _ (by decide)
  fin_cases i
  · show 256 * (n / 2 % 4) + 256 ≤ 1024; omega
  · show 1024 * (n % 2) + 1024 ≤ 2048; omega
/-- The result tile of number `n`. -/
abbrev outR (n : ℕ) : Rect S1024x2048 := Rect.unit (s := S1024x2048) (outOff n) S256x1024.size (out_inb n)
/-- The tiles of the result stored before transfer `r` is received. -/
def OutOK (c : Dev nD) (r : ℕ) (f : (cc0_stg2_0 : Ref sig .tc).ty.Contents (Elt F)) : Prop :=
  ∀ n, 16 ≤ n → n < r → (oM.access (outR n)).read (Elt F) f = res m ρ c n
/-- Before the step that receives transfer `r` and stores a tile of the result. -/
def P3 (c : Dev nD) (r : ℕ) : sProp 𝕄 :=
  iprop(base m ρ K ∗ table 24 (recvPre c) (recvPost c) r ∗ xP m ρ c ∗ wP m ρ c ∗ owesE c 0 ∗ ∃ f, ⌜OutOK m ρ c r f⌝ ∗ oP c f)
/-- Before the wait for send `n`. -/
def P4 (c : Dev nD) (n : ℕ) : sProp 𝕄 := iprop(base m ρ K ∗ table 24 (waitPre c) (waitPost c) n ∗ owesE c 0)

/-! ## A transfer and a wait -/

section Rules
/-- Transfer `n`, from its filled source slot. -/
theorem wp_send (c : Dev nD) {n : ℕ} (h : n < 24)
    {hsc : (slotM (n + 8) : Memref sig (Dev.tc (fwd (dirOf n) c) : Thread nD τ).2.kind .vmem S256x1024 .bf16).view.ref.isScScratch = false}
    {hsrc : (slotM n).view.WordExact} {hdst : (slotM (n + 8)).view.WordExact}
    {hsem : DmaTarget.Typed .vmem (.dma (sV n)) (.remote (Dev.tc (fwd (dirOf n) c) : Thread nD τ) (slotM (n + 8)) (.dma (sS n)) hsc)}
    {α : Type} {Q : α → sProp 𝕄} {k : PUnit → Prog (TpuEff nD τ sig (Elt F) Λ₀ .tc) α} (W : Waits sig Unit) :
    iprop(recs m ρ K ∗ slot c n (sent m ρ c n) ∗ sendPre c n ∗ owes (c : Thread nD τ) (owe c n) W)
      ⊢ iprop(((sendPost c n ∗ owes (c : Thread nD τ) (owe c (n + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM n) (.remote (Dev.tc (fwd (dirOf n) c) : Thread nD τ) (slotM (n + 8)) (.dma (sS n)) hsc) (.dma (sV n)) hsrc hdst hsem) k) Q) := by
  unfold sendPre slotE slot
  iintro ⟨#HR, ⟨%fs, %hfs, Hsrc⟩, ⟨HtS, HtV, ⟨%v, %fd, %hfd, Hdst⟩⟩, HO⟩ Hk
  ihave HIs := (inv_send m ρ K c h) $$ HR
  icases HIs with ⟨#HIs, #HrS⟩
  ihave HIv := (inv_recv m ρ K (fwd (dirOf n) c) h) $$ HR
  icases HIv with ⟨#HIv, #HrV⟩
  iapply (Rounds.wp_send_pointsTo 𝒱₀ ER (rd m ρ) (c : Thread nD τ) none (c' := (fwd (dirOf n) c : Thread nD τ)) (src := slotM n) (dst := slotM (n + 8)) (fs := fs) (κ₁ := K c (1 + n)) (κ₂ := K (fwd (dirOf n) c) (25 + n))
    (r₁ := 0) (r₂ := 0) (d₁ := false) (d₂ := false) (fd := fd)
    (mem_duties m ρ c _ (le_sS h)) (mem_duties m ρ _ _ (le_sV h))
    () () N (credit_slot (n + 8)) (amount_xfer m ρ c (sS n) false) (amount_xfer m ρ (fwd (dirOf n) c) (sV n) false) (owe c (n + 1)) (owe_step c h) (W := W)
    (by rw [payload_send m ρ c h]; exact slot_intro c n fs _ hfs)
    (by
      rw [payload_recv m ρ _ h]
      refine slot_intro _ _ _ _ ?_
      rw [slot_moved, hfs, got, bwd_fwd])) $$ [Hsrc Hdst HO HtS HtV]
  · isplitr; · iexact HIs
    isplitr; · iexact HIv
    isplitl [Hsrc]; · iexact Hsrc
    isplitl [Hdst]; · iexact Hdst
    isplitl [HO]; · iexact HO
    isplitl [HtS]; · iexact HtS
    isplitr; · iexact HrS
    isplitl [HtV]; · iexact HtV
    iexact HrV
  unfold sendPost
  iexact Hk

/-- A wait on a transfer's cell. -/
theorem wp_wait (c : Dev nD) (q : DmaSem sig) (hq : 3 ≤ q.val) (κ : ℕ) (O : CellTallies nD τ sig Unit) (W : Waits sig Unit)
    {src dst : Memref sig .tc .vmem S256x1024 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (rd m ρ) κ ((c : Thread nD τ), .dma q) ∗ cred (tallyAt ((c : Thread nD τ), SemLoc.dma q) () N) ∗ owes (c : Thread nD τ) O W
        ∗ MayWait (c : Thread nD τ) (.dma q) () O ∗ atPos ER ((c : Thread nD τ), .dma q) 0 ∅ 0)
      ⊢ iprop(((owes (c : Thread nD τ) O (insert (SemLoc.dma q, ()) W) ∗ atPos ER ((c : Thread nD τ), .dma q) (0 + 1) ∅ 0
            ∗ (rd m ρ).payload ((c : Thread nD τ), .dma q) 0 false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, HM, Hat⟩ Hk
  iapply (Rounds.wp_wait_rest_token 𝒱₀ ER (rd m ρ) (c : Thread nD τ) none (κ := κ)
      (wpE_waitDma2_eq 𝒱₀ (c : Thread nD τ) none Set.univ) (Set.mem_univ _) () (O := O) (W := W) (R := 0) (m := 0) (T := ∅)
      (by rw [Nat.zero_add, hN, expect_xfer m ρ c q hq])) $$ [Hc HO HM Hat]
  · isplitr; · iexact HI
    isplitl [Hc]; · iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_xfer m ρ c q hq)); iexact Hpay

/-- The wait for transfer `r`: the slot it landed in, with its contents. -/
theorem wp_recv (c : Dev nD) {r : ℕ} (h : r < 24) (k₀ : ℕ) (hk : r < k₀)
    {src dst : Memref sig .tc .vmem S256x1024 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(base m ρ K ∗ recvPre c r ∗ owesE c (owe c k₀))
      ⊢ iprop(((owesE c (owe c k₀) ∗ atPos ER (vCell c r) (0 + 1) ∅ 0 ∗ slot c (r + 8) (got m ρ c r))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sV r) src dst hsrc hdst) k) Q) := by
  unfold base recvPre owesE
  iintro ⟨⟨#HR, #Hlev⟩, ⟨Hat, Hc⟩, ⟨%W, HO⟩⟩ Hk
  ihave HI := (inv_recv m ρ K c h) $$ HR
  icases HI with ⟨#HI, -⟩
  iapply (wp_wait m ρ c (sV r) (le_sV h) (K c (25 + r)) (owe c k₀) W hN) $$ [Hc HO Hat]
  · isplitr; · iexact HI
    isplitl [Hc]; · iexact Hc
    isplitl [HO]; · iexact HO
    isplitr
    · iapply (mayWait_owe c (.dma (sV r)) (2 + r) k₀ (lv_recv c h).le (by omega)); iexact Hlev
    iexact Hat
  iintro ⟨HO, Hat, Hp⟩
  iapply Hk
  isplitl [HO]; · iexists _; iexact HO
  isplitl [Hat]; · iexact Hat
  iapply (Entails.of_eq (payload_recv m ρ c h false)); iexact Hp

end Rules

end Cert.RingProof

end
-- ==== Proof.Kinds.lean ====
/-
# The four kinds of steps of the body

Each rule says: if the rest of the program can be run from the state after the step, then the step and the rest can
be run from the state before it. The memrefs, offsets, semaphores and values of the program's text are variables here,
with the equations they have to satisfy as hypotheses.
-/
module

public import proofs.«01_k».proof.Proof.Steps

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD → ℕ → ℕ)

/-- The weakest precondition of a program of device `c`'s core. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
/-- A slot just written holds what was written. -/
theorem slot_written (c : Dev nD) (n : ℕ) (f₀ : Buf (Elt F) (((bufM (dirOf n)).access (slotR n)).loc (c : Thread nD τ)))
    (p v : Vec F S1x256x1024 .bf16) (h : p = v) :
    (((bufM (dirOf n)).access (slotR n)).loc (c : Thread nD τ) ↦[((bufM (dirOf n)).access (slotR n)).set]{fullShare}
      (((bufM (dirOf n)).access (slotR n)).write (Elt F) f₀ p Finset.univ) : sProp 𝕄) ⊢ slot c n v := by
  subst h
  rw [slot_eq]
  iintro H; iexists ((slotV n).write (Elt F) f₀ p Finset.univ); isplitr; · ipureintro; exact View.read_write_univ _ _
  iexact H

/-- The result's tiles are disjoint. -/
theorem out_disjoint {n r : ℕ} (hn : 16 ≤ n) (h : n < r) (hr : r < 24) : Disjoint (outR n).set (outR r).set := by
  by_cases e : n / 2 % 4 = r / 2 % 4
  · refine Rect.unit_disjoint 1 ?_
    show 1024 * (n % 2) + 1024 ≤ 1024 * (r % 2) ∨ 1024 * (r % 2) + 1024 ≤ 1024 * (n % 2)
    omega
  · refine Rect.unit_disjoint 0 ?_
    show 256 * (n / 2 % 4) + 256 ≤ 256 * (r / 2 % 4) ∨ 256 * (r / 2 % 4) + 256 ≤ 256 * (n / 2 % 4)
    omega

section Kinds
variable {c : Dev nD} {α : Type}

/-- Making the first term of number `n` and sending it. -/
theorem step_first {n : ℕ} {R : sProp 𝕄} {Q : α → sProp 𝕄}
    {xo : Fin 2 → ℕ} {xi xl} {wo : Fin 2 → ℕ} {wi wl} {buf : Memref sig .tc .vmem S4x1024x1024 .bf16} {so : Fin 3 → ℕ} {si sl ss se}
    {f : Vec F S256x1024 .f32 → Vec F S1024x1024 .f32 → Vec F S1x256x1024 .bf16}
    {t : Dev nD} {src dst : Memref sig .tc .vmem S256x1024 .bf16} {qs qv : DmaSem sig} {hsc h1 h2 h3}
    {k : Prog (TpuEff nD τ sig (Elt F) Λ₀ .tc) α}
    (hn : n < 8) (hxo : xo = xOff (dirOf n) (n / 8) c (tileOf n)) (hwo : wo = wOff (dirOf n)) (hbuf : buf = bufM (dirOf n)) (hso : so = slotOff n)
    (hf : ∀ x w, f x w = first x w) (ht : t = fwd (dirOf n) c) (hsrc : src = slotM n) (hdst : dst = slotM (n + 8)) (hqs : qs = sS n) (hqv : qv = sV n)
    (hk : iprop(P1 m ρ K c (n + 1) ∗ R) ⊢ run c k Q) :
    iprop(P1 m ρ K c n ∗ R) ⊢ run c
      (.op (.load xM (Rect.unit (s := S4096x1024) xo S256x1024.size xi).toLoadRect xl) fun x =>
        .op (.load wM (Rect.unit (s := S1024x2048) wo S1024x1024.size wi).toLoadRect wl) fun w =>
        .op (.load buf (Rect.unit (s := S4x1024x1024) so S1x256x1024.size si).toLoadRect sl) fun _ =>
        .op (.store buf (Rect.unit (s := S4x1024x1024) so S1x256x1024.size si) (f x w) Finset.univ ss se) fun _ =>
        .op (.enqueueDma src (.remote (Dev.tc t : Thread nD τ) dst (.dma qs) hsc) (.dma qv) h1 h2 h3) fun _ => k) Q := by
  subst hxo hwo hbuf hso ht hsrc hdst hqs hqv
  have hf' : f = first := funext fun x => funext fun w => hf x w
  subst hf'
  unfold P1 xP wP owesE
  iintro ⟨⟨#HB, HS, HF, Hx, Hw, ⟨%W, HO⟩⟩, HR⟩
  ihave HF := (table_step 8 (slotE c) (fun _ => iprop(emp)) hn) $$ HF
  icases HF with ⟨He, HF⟩
  ihave HS := (table_step 24 (sendPre c) (sendPost c) (show n < 24 by omega)) $$ HS
  icases HS with ⟨Hp, HS⟩
  iapply (wp_load_rect 𝒱₀ (c : Thread nD τ) none Set.univ (m := xM) (r := Rect.unit (s := S4096x1024) (xOff (dirOf n) (n / 8) c (tileOf n)) S256x1024.size (x_inb _ _ _ _)) (Finset.subset_univ _)) $$ Hx; iintro Hx
  iapply (wp_load_rect 𝒱₀ (c : Thread nD τ) none Set.univ (m := wM) (r := Rect.unit (s := S1024x2048) (wOff (dirOf n)) S1024x1024.size (w_inb _)) (Finset.subset_univ _)) $$ Hw; iintro Hw
  unfold slotE
  icases He with ⟨%v, He⟩
  ihave He := (Entails.of_eq (slot_eq c n v)) $$ He
  icases He with ⟨%f₀, -, He⟩
  iapply (wp_load_rect 𝒱₀ (c : Thread nD τ) none Set.univ (m := bufM (dirOf n)) (r := slotR n) (Finset.Subset.refl _)) $$ He; iintro He
  iapply (wp_store 𝒱₀ (c : Thread nD τ) none Set.univ (m := bufM (dirOf n)) (r := slotR n) (Mk := Finset.univ) (S := (slotV n).set) (Finset.Subset.refl _)) $$ He; iintro He
  ihave He := (slot_written c n f₀ _ (sent m ρ c n) (sent_first m ρ c hn).symm) $$ He
  unfold base
  icases HB with ⟨#HR', #Hl⟩
  iapply (wp_send m ρ K c (show n < 24 by omega) W) $$ [He Hp HO]
  · isplitr; · iexact HR'
    isplitl [He]; · iexact He
    isplitl [Hp] <;> iassumption
  iintro ⟨Hp, HO⟩
  ihave HS := HS $$ Hp
  iapply hk
  unfold P1 xP wP owesE base slotE
  isplitr [HR]
  · isplitr
    · isplitr <;> iassumption
    isplitl [HS]; · iexact HS
    isplitl [HF]; · iapply HF; iempintro
    isplitl [Hx]; · iexact Hx
    isplitl [Hw]; · iexact Hw
    iexists W; iexact HO
  · iexact HR

/-- Receiving transfer `r`, adding the own term and sending the sum on as transfer `r + 8`. -/
theorem step_next {r : ℕ} {R : sProp 𝕄} {Q : α → sProp 𝕄}
    {wsrc wdst : Memref sig .tc .vmem S256x1024 .bf16} {qr : DmaSem sig} {g1 g2}
    {xo : Fin 2 → ℕ} {xi xl} {wo : Fin 2 → ℕ} {wi wl} {buf : Memref sig .tc .vmem S4x1024x1024 .bf16} {so : Fin 3 → ℕ} {si sl sl' ss se}
    {f : Vec F S1x256x1024 .bf16 → Vec F S256x1024 .f32 → Vec F S1024x1024 .f32 → Vec F S1x256x1024 .bf16}
    {t : Dev nD} {src dst : Memref sig .tc .vmem S256x1024 .bf16} {qs qv : DmaSem sig} {hsc h1 h2 h3}
    {k : Prog (TpuEff nD τ sig (Elt F) Λ₀ .tc) α}
    (hr : r < 16) (hqr : qr = sV r) (hN : wdst.view.dmaCredit = N)
    (hxo : xo = xOff (dirOf (r + 8)) ((r + 8) / 8) c (tileOf (r + 8))) (hwo : wo = wOff (dirOf (r + 8))) (hbuf : buf = bufM (dirOf (r + 8))) (hso : so = slotOff (r + 8))
    (hf : ∀ v x w, f v x w = next v x w) (ht : t = fwd (dirOf (r + 8)) c) (hsrc : src = slotM (r + 8)) (hdst : dst = slotM (r + 8 + 8))
    (hqs : qs = sS (r + 8)) (hqv : qv = sV (r + 8))
    (hk : iprop(P2 m ρ K c (r + 1) ∗ R) ⊢ run c k Q) :
    iprop(P2 m ρ K c r ∗ R) ⊢ run c
      (.op (.waitDma2 qr wsrc wdst g1 g2) fun _ =>
        .op (.load buf (Rect.unit (s := S4x1024x1024) so S1x256x1024.size si).toLoadRect sl) fun v =>
        .op (.load xM (Rect.unit (s := S4096x1024) xo S256x1024.size xi).toLoadRect xl) fun x =>
        .op (.load wM (Rect.unit (s := S1024x2048) wo S1024x1024.size wi).toLoadRect wl) fun w =>
        .op (.load buf (Rect.unit (s := S4x1024x1024) so S1x256x1024.size si).toLoadRect sl') fun _ =>
        .op (.store buf (Rect.unit (s := S4x1024x1024) so S1x256x1024.size si) (f v x w) Finset.univ ss se) fun _ =>
        .op (.enqueueDma src (.remote (Dev.tc t : Thread nD τ) dst (.dma qs) hsc) (.dma qv) h1 h2 h3) fun _ => k) Q := by
  subst hqr hxo hwo hbuf hso ht hsrc hdst hqs hqv
  have hf' : f = next := funext fun v => funext fun x => funext fun w => hf v x w
  subst hf'
  unfold P2 xP wP
  iintro ⟨⟨#HB, HS, HF, Hx, Hw, HO⟩, HR⟩
  ihave HF := (table_step 24 (recvPre c) (recvPost c) (show r < 24 by omega)) $$ HF
  icases HF with ⟨Hp, HF⟩
  iapply (wp_recv m ρ K c (show r < 24 by omega) (r + 8) (by omega) hN) $$ [Hp HO]
  · isplitr; · iexact HB
    isplitl [Hp] <;> iassumption
  iintro ⟨HO, Hat, He⟩
  ihave HS := (table_step 24 (sendPre c) (sendPost c) (show r + 8 < 24 by omega)) $$ HS
  icases HS with ⟨Hp, HS⟩
  ihave He := (Entails.of_eq (slot_eq c (r + 8) _)) $$ He
  icases He with ⟨%f₀, %hf₀, He⟩
  iapply (wp_load_rect 𝒱₀ (c : Thread nD τ) none Set.univ (m := bufM (dirOf (r + 8))) (r := slotR (r + 8)) (Finset.Subset.refl _)) $$ He; iintro He
  iapply (wp_load_rect 𝒱₀ (c : Thread nD τ) none Set.univ (m := xM) (r := Rect.unit (s := S4096x1024) (xOff (dirOf (r + 8)) ((r + 8) / 8) c (tileOf (r + 8))) S256x1024.size (x_inb _ _ _ _)) (Finset.subset_univ _)) $$ Hx; iintro Hx
  iapply (wp_load_rect 𝒱₀ (c : Thread nD τ) none Set.univ (m := wM) (r := Rect.unit (s := S1024x2048) (wOff (dirOf (r + 8))) S1024x1024.size (w_inb _)) (Finset.subset_univ _)) $$ Hw; iintro Hw
  iapply (wp_load_rect 𝒱₀ (c : Thread nD τ) none Set.univ (m := bufM (dirOf (r + 8))) (r := slotR (r + 8)) (Finset.Subset.refl _)) $$ He; iintro He
  rw [hf₀]
  iapply (wp_store 𝒱₀ (c : Thread nD τ) none Set.univ (m := bufM (dirOf (r + 8))) (r := slotR (r + 8)) (Mk := Finset.univ) (S := (slotV (r + 8)).set) (Finset.Subset.refl _)) $$ He; iintro He
  ihave He := (slot_written c (r + 8) f₀ _ (sent m ρ c (r + 8)) (sent_next m ρ c r).symm) $$ He
  unfold base owesE
  icases HB with ⟨#HR', #Hl⟩
  icases HO with ⟨%W, HO⟩
  iapply (wp_send m ρ K c (show r + 8 < 24 by omega) W) $$ [He Hp HO]
  · isplitr; · iexact HR'
    isplitl [He]; · iexact He
    isplitl [Hp] <;> iassumption
  iintro ⟨Hp, HO⟩
  ihave HS := HS $$ Hp
  iapply hk
  unfold P2 xP wP owesE base
  rw [show r + 1 + 8 = r + 8 + 1 by omega]
  isplitr [HR]
  · isplitr
    · isplitr <;> iassumption
    isplitl [HS]; · iexact HS
    isplitl [HF Hat]
    · iapply HF; unfold recvPost
      isplitl [Hat]; · iexact Hat
      rw [if_neg (by omega)]; iempintro
    isplitl [Hx]; · iexact Hx
    isplitl [Hw]; · iexact Hw
    iexists W; iexact HO
  · iexact HR

/-- Receiving transfer `r` of the last hop and storing the tile of the result it completes. -/
theorem step_last {r : ℕ} {R : sProp 𝕄} {Q : α → sProp 𝕄}
    {wsrc wdst : Memref sig .tc .vmem S256x1024 .bf16} {qr : DmaSem sig} {g1 g2}
    {xo : Fin 2 → ℕ} {xi xl} {wo : Fin 2 → ℕ} {wi wl} {buf : Memref sig .tc .vmem S4x1024x1024 .bf16} {so : Fin 3 → ℕ} {si sl}
    {oo : Fin 2 → ℕ} {oi ol os oe}
    {f : Vec F S1x256x1024 .bf16 → Vec F S256x1024 .f32 → Vec F S1024x1024 .f32 → Vec F S256x1024 .f32}
    {k : Prog (TpuEff nD τ sig (Elt F) Λ₀ .tc) α}
    (hr : r < 24) (hr' : 16 ≤ r) (hqr : qr = sV r) (hN : wdst.view.dmaCredit = N)
    (hxo : xo = xOff (dirOf (r + 8)) ((r + 8) / 8) c (tileOf (r + 8))) (hwo : wo = wOff (dirOf (r + 8))) (hbuf : buf = bufM (dirOf (r + 8))) (hso : so = slotOff (r + 8))
    (hoo : oo = outOff r) (hf : ∀ v x w, f v x w = final v x w)
    (hk : iprop(P3 m ρ K c (r + 1) ∗ R) ⊢ run c k Q) :
    iprop(P3 m ρ K c r ∗ R) ⊢ run c
      (.op (.waitDma2 qr wsrc wdst g1 g2) fun _ =>
        .op (.load buf (Rect.unit (s := S4x1024x1024) so S1x256x1024.size si).toLoadRect sl) fun v =>
        .op (.load xM (Rect.unit (s := S4096x1024) xo S256x1024.size xi).toLoadRect xl) fun x =>
        .op (.load wM (Rect.unit (s := S1024x2048) wo S1024x1024.size wi).toLoadRect wl) fun w =>
        .op (.load oM (Rect.unit (s := S1024x2048) oo S256x1024.size oi).toLoadRect ol) fun _ =>
        .op (.store oM (Rect.unit (s := S1024x2048) oo S256x1024.size oi) (f v x w) Finset.univ os oe) fun _ => k) Q := by
  subst hqr hxo hwo hbuf hso hoo
  have hf' : f = final := funext fun v => funext fun x => funext fun w => hf v x w
  subst hf'
  unfold P3 xP wP
  iintro ⟨⟨#HB, HF, Hx, Hw, HO, ⟨%g, %hg, Hout⟩⟩, HR⟩
  ihave HF := (table_step 24 (recvPre c) (recvPost c) hr) $$ HF
  icases HF with ⟨Hp, HF⟩
  rw [← owe_done c]
  iapply (wp_recv m ρ K c hr 24 hr hN) $$ [Hp HO]
  · isplitr; · iexact HB
    isplitl [Hp] <;> iassumption
  iintro ⟨HO, Hat, He⟩
  ihave He := (Entails.of_eq (slot_eq c (r + 8) _)) $$ He
  icases He with ⟨%f₀, %hf₀, He⟩
  unfold oP
  iapply (wp_load_rect 𝒱₀ (c : Thread nD τ) none Set.univ (m := bufM (dirOf (r + 8))) (r := slotR (r + 8)) (Finset.Subset.refl _)) $$ He; iintro He
  iapply (wp_load_rect 𝒱₀ (c : Thread nD τ) none Set.univ (m := xM) (r := Rect.unit (s := S4096x1024) (xOff (dirOf (r + 8)) ((r + 8) / 8) c (tileOf (r + 8))) S256x1024.size (x_inb _ _ _ _)) (Finset.subset_univ _)) $$ Hx; iintro Hx
  iapply (wp_load_rect 𝒱₀ (c : Thread nD τ) none Set.univ (m := wM) (r := Rect.unit (s := S1024x2048) (wOff (dirOf (r + 8))) S1024x1024.size (w_inb _)) (Finset.subset_univ _)) $$ Hw; iintro Hw
  iapply (wp_load_rect 𝒱₀ (c : Thread nD τ) none Set.univ (m := oM) (r := outR r) (Finset.subset_univ _)) $$ Hout; iintro Hout
  rw [hf₀]
  iapply (wp_store 𝒱₀ (c : Thread nD τ) none Set.univ (m := oM) (r := outR r) (Mk := Finset.univ) (S := Finset.univ) (Finset.subset_univ _)) $$ Hout; iintro Hout
  have hg' : OutOK m ρ c (r + 1) ((oM.access (outR r)).write (Elt F) g (res m ρ c r) Finset.univ) := fun n h1 h2 => by
    rcases Nat.lt_or_ge n r with h | h
    · refine Eq.trans ?_ (hg n h1 h)
      refine View.read_slice_write_slice_of_disjoint _ _ _ _ _ ?_
      rw [View.setOn_univ]
      show Disjoint ((View.whole cc0_stg2_0).slice (outR n)).set ((View.whole cc0_stg2_0).slice (outR r)).set
      rw [View.set_slice_whole, View.set_slice_whole]
      exact out_disjoint h1 h hr
    · obtain rfl : n = r := by omega
      exact View.read_write_univ _ _
  iapply hk
  unfold P3 xP wP oP
  rw [owe_done c]
  isplitr [HR]
  · isplitr; · iexact HB
    isplitl [HF Hat He]
    · iapply HF; unfold recvPost
      isplitl [Hat]; · iexact Hat
      rw [if_pos hr']
      unfold slotE
      iexists (got m ρ c r)
      rw [slot_eq]
      iexists f₀
      isplitr; · ipureintro; exact hf₀
      iexact He
    isplitl [Hx]; · iexact Hx
    isplitl [Hw]; · iexact Hw
    isplitl [HO]; · iexact HO
    iexists _
    isplitr; · ipureintro; exact hg'
    iexact Hout
  · iexact HR

/-- Waiting for send `n`: its source slot is the device's again. -/
theorem step_wait {n : ℕ} {R : sProp 𝕄} {Q : α → sProp 𝕄}
    {wsrc wdst : Memref sig .tc .vmem S256x1024 .bf16} {qr : DmaSem sig} {g1 g2} {k : Prog (TpuEff nD τ sig (Elt F) Λ₀ .tc) α}
    (hn : n < 24) (hqr : qr = sS n) (hN : wdst.view.dmaCredit = N)
    (hk : iprop(P4 m ρ K c (n + 1) ∗ R) ⊢ run c k Q) :
    iprop(P4 m ρ K c n ∗ R) ⊢ run c (.op (.waitDma2 qr wsrc wdst g1 g2) fun _ => k) Q := by
  subst hqr
  unfold P4 owesE base
  iintro ⟨⟨⟨#HB, #Hl⟩, HF, ⟨%W, HO⟩⟩, HR⟩
  ihave HF := (table_step 24 (waitPre c) (waitPost c) hn) $$ HF
  unfold waitPre
  icases HF with ⟨⟨Hat, Hc⟩, HF⟩
  ihave HI := (inv_send m ρ K c hn) $$ HB
  icases HI with ⟨#HI, -⟩
  iapply (wp_wait m ρ c (sS n) (le_sS hn) (K c (1 + n)) 0 W hN) $$ [Hc HO Hat]
  · isplitr; · iexact HI
    isplitl [Hc]; · iexact Hc
    isplitl [HO]; · iexact HO
    isplitr; · rw [MayWait_zero]; iempintro
    iexact Hat
  iintro ⟨HO, Hat, Hp⟩
  iapply hk
  unfold P4 owesE base
  isplitr [HR]
  · isplitr
    · isplitr <;> iassumption
    isplitl [HF Hat Hp]
    · iapply HF; unfold waitPost slotE
      isplitl [Hat]; · iexact Hat
      iexists _
      iapply (Entails.of_eq (payload_send m ρ c hn false)); iexact Hp
    iexists _; iexact HO
  · iexact HR

end Kinds

end Cert.RingProof

end
-- ==== Proof.Turns.lean ====
/-
# The body of the kernel

The barrier with both neighbours, then the steps of `Kinds` in program order.
-/
module

public import proofs.«01_k».proof.Proof.Kinds

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD → ℕ → ℕ)

/-! ## The text's slices and indices -/

/-- The first signalled device is the left neighbour. -/
theorem dev1_eq (c : Dev nD) : (⟨k0_dev1 c, k0_dev1_lt c⟩ : Dev nD) = prv c := Fin.ext (k0_dev1_eq c)
/-- The second signalled device is the right neighbour. -/
theorem dev2_eq (c : Dev nD) : (⟨k0_dev2 c, k0_dev2_lt c⟩ : Dev nD) = nxt c := Fin.ext (k0_dev2_eq c)

/-- The constants the text computes the row block of number `n` with. -/
def shiftOf (n : Fin 32) : Fin 6 := if n.val / 8 = 0 then (if n.val % 2 = 0 then 2 else 0) else if n.val / 8 = 1 then (if n.val % 2 = 0 then 5 else 1)
  else if n.val / 8 = 2 then (if n.val % 2 = 0 then 4 else 2) else 3
/-- The row tile of number `n`. -/
def rowsOf (n : Fin 32) : Fin 4 := ⟨n.val / 2 % 4, Nat.mod_lt _ (by decide)⟩
/-- The row offset as the program computes it, at each number. -/
theorem off_eq : ∀ (c : Dev nD) (n : Fin 32), (![1024 * ((c.val + (shiftOf n).val + 1) % 4) + 256 * (rowsOf n).val, 0] : Fin 2 → ℕ)
    = xOff (dirOf n) (n.val / 8) c (tileOf n) := by decide +kernel
/-- The row tile of `x` as the text indexes it: the numbers `a` and `b` it computes the row with are those of tile `n`. -/
theorem rows_at {c : Dev nD} {n : ℕ} {a b : BitVec 32} (hn : n < 32) (ha : a = BitVec.ofNat 32 (1 + (shiftOf ⟨n, hn⟩).val))
    (hb : b = BitVec.ofNat 32 (256 * (rowsOf ⟨n, hn⟩).val)) : k0_off1 c a b = xOff (dirOf n) (n / 8) c (tileOf n) := by
  subst ha hb
  exact (k0_off1_eq c (shiftOf ⟨n, hn⟩) (rowsOf ⟨n, hn⟩)).trans (off_eq c ⟨n, hn⟩)

/-! ## Before the ring: the barrier -/

/-- The state the body starts from. -/
def P0 (c : Dev nD) : sProp 𝕄 :=
  iprop(base m ρ K ∗ (dutyTok ER (barCell (prv c)) 0 false ∗ dutyTok ER (barCell (nxt c)) 0 true ∗ atPos ER (barCell c) 0 ∅ 0 ∗ cred (tallyAt (barCell c) () 2))
    ∗ (bigSep (Finset.range 32) (slotE c))
    ∗ (bigSep (Finset.range 24) fun n => iprop(dutyTok ER (sCell c n) 0 false ∗ dutyTok ER (vCell (fwd (dirOf n) c) n) 0 false))
    ∗ xP m ρ c ∗ wP m ρ c ∗ owesE c (O₀ c))

/-- The barrier: both neighbours are signalled, both signals are awaited, and the neighbours' slots come with them. -/
theorem prologue {c : Dev nD} {α : Type} {R : sProp 𝕄} {Q : α → sProp 𝕄} {d1 d2 : Dev nD} {q1 q2 q3 : Sem sig} {k : Prog (TpuEff nD τ sig (Elt F) Λ₀ .tc) α}
    (hd1 : d1 = prv c) (hd2 : d2 = nxt c) (hq1 : q1 = barS) (hq2 : q2 = barS) (hq3 : q3 = barS)
    (hk : iprop(P1 m ρ K c 0 ∗ atPos ER (barCell c) (0 + 1) ∅ 0 ∗ R) ⊢ run c k Q) :
    iprop(P0 m ρ K c ∗ R) ⊢ run c
      (semSignalWord d1 q1 1#32 >>= fun _ => semSignalWord d2 q2 1#32 >>= fun _ => semWaitWord q3 2#32 >>= fun _ => k) Q := by
  subst hd1 hd2 hq1 hq2 hq3
  simp only [semSignalWord, semWaitWord, Prog.lift, Prog.bind_op, Prog.bind_ret, Prog.pure_eq_ret, Prog.bind_assoc]
  unfold P0 owesE base
  iintro ⟨⟨⟨#HR, #Hl⟩, ⟨Ht1, Ht2, Hat, Hc⟩, Hs, Htok, Hx, Hw, ⟨%W, HO⟩⟩, HRest⟩
  ihave Hs := (Entails.of_eq (range_add 8 24 (slotE c))) $$ Hs
  icases Hs with ⟨Hown, Hs⟩
  ihave Hs := (show (bigSep (Finset.range 24) (fun n => slotE c (8 + n)) : sProp 𝕄) ⊢ iprop(barPay (prv c) false ∗ barPay (nxt c) true) from
    (bigSep_mono fun n _ => by rw [Nat.add_comm]; exact BI.Entails.refl _).trans (bar_split c)) $$ Hs
  icases Hs with ⟨Hs1, Hs2⟩
  ihave H1 := (inv_bar m ρ K (prv c)) $$ HR
  icases H1 with ⟨#HI1, #HA1⟩
  ihave H2 := (inv_bar m ρ K (nxt c)) $$ HR
  icases H2 with ⟨#HI2, #HA2⟩
  ihave H3 := (inv_bar m ρ K c) $$ HR
  icases H3 with ⟨#HI3, -⟩
  unfold O₀
  iapply (Rounds.wp_signal 𝒱₀ ER (rd m ρ) (c : Thread nD τ) none (dst := (prv c : Thread nD τ)) (κ := K (prv c) 0)
      (d := false) (by rw [duties_bar]; exact Finset.mem_univ _) ((amount_bar m ρ (prv c) false).trans (by decide)) () (O₁ c) rfl)
    $$ [HO Ht1 Hs1]
  · isplitr; · iexact HI1
    isplitl [HO]; · iexact HO
    isplitl [Ht1]; · iexact Ht1
    isplitl [Hs1]; · rw [payload_bar]; iexact Hs1
    iexact HA1
  iintro HO
  unfold O₁
  iapply (Rounds.wp_signal 𝒱₀ ER (rd m ρ) (c : Thread nD τ) none (dst := (nxt c : Thread nD τ)) (κ := K (nxt c) 0)
      (d := true) (by rw [duties_bar]; exact Finset.mem_univ _) ((amount_bar m ρ (nxt c) true).trans (by decide)) () (owe c 0) rfl)
    $$ [HO Ht2 Hs2]
  · isplitr; · iexact HI2
    isplitl [HO]; · iexact HO
    isplitl [Ht2]; · iexact Ht2
    isplitl [Hs2]; · rw [payload_bar]; iexact Hs2
    iexact HA2
  iintro HO
  iapply (Rounds.wp_wait_rest_token 𝒱₀ ER (rd m ρ) (c : Thread nD τ) none (κ := K c 0)
      (wpE_semWait_eq 𝒱₀ (c : Thread nD τ) none Set.univ) (Set.mem_univ _) () (O := owe c 0) (W := W) (R := 0) (m := 0) (T := ∅)
      (by rw [expect_bar]; decide)) $$ [Hc HO Hat]
  · isplitr; · iexact HI3
    isplitl [Hc]; · iexact Hc
    isplitl [HO]; · iexact HO
    isplitr; · iapply (mayWait_owe c (.reg barS) 1 0 (Nat.le_refl 1) (by decide)); iexact Hl
    iexact Hat
  iintro ⟨HO, Hat, -, Hpay⟩
  ihave Hp := (rest_bar m ρ c) $$ Hpay
  iapply hk
  unfold P1 owesE base
  rw [table_zero, table_zero]
  isplitr [Hat HRest]
  · isplitr
    · isplitr <;> iassumption
    isplitl [Htok Hp]
    · iapply (show iprop((bigSep (Finset.range 24) fun n => iprop(dutyTok ER (sCell c n) 0 false ∗ dutyTok ER (vCell (fwd (dirOf n) c) n) 0 false))
          ∗ bigSep (Finset.range 24) fun n => slotE (F := F) (fwd (dirOf n) c) (n + 8)) ⊢ (bigSep (Finset.range 24) (sendPre c) : sProp 𝕄) from by
        rw [← bigSep_sep']
        refine bigSep_mono fun n _ => ?_
        unfold sendPre
        exact (Entails.of_eq (sep_group _ _ _).symm))
      isplitl [Htok] <;> iassumption
    isplitl [Hown]; · iexact Hown
    isplitl [Hx]; · iexact Hx
    isplitl [Hw]; · iexact Hw
    iexists _; iexact HO
  isplitl [Hat] <;> iassumption

/-! ## From one kind of step to the next -/

/-- What is left when the body has run. -/
def final' (c : Dev nD) : sProp 𝕄 :=
  iprop(atPos ER (barCell c) (0 + 1) ∅ 0 ∗ (bigSep (Finset.range 24) (recvPost (F := F) c)) ∗ (bigSep (Finset.range 24) (waitPost (F := F) c))
    ∗ xP m ρ c ∗ wP m ρ c ∗ owesE c 0 ∗ ∃ f, ⌜OutOK m ρ c 24 f⌝ ∗ oP c f)

/-- A turn of a middle hop: receive, add the own product, send on. -/
theorem turn_next {c : Dev nD} {R : sProp 𝕄} :
    iprop(P1 m ρ K c 8 ∗ (bigSep (Finset.range 24) (recvPre (F := F) c)) ∗ R) ⊢ iprop(P2 m ρ K c 0 ∗ R) := by
  unfold P1 P2
  iintro ⟨⟨HB, HS, -, Hx, Hw, HO⟩, Hr, HR⟩
  rw [table_zero 24 (recvPre c)]
  isplitr [HR]
  · isplitl [HB]; · iexact HB
    isplitl [HS]; · iexact HS
    isplitl [Hr]; · iexact Hr
    isplitl [Hx]; · iexact Hx
    isplitl [Hw] <;> iassumption
  iexact HR

/-- A turn of the last hop: receive, add the own product, store the activation. -/
theorem turn_last {c : Dev nD} {R : sProp 𝕄} :
    iprop(P2 m ρ K c 16 ∗ (∃ f, oP (F := F) c f) ∗ R) ⊢ iprop(P3 m ρ K c 16 ∗ (bigSep (Finset.range 24) (sendPost (F := F) c)) ∗ R) := by
  unfold P2 P3
  iintro ⟨⟨HB, HS, Hr, Hx, Hw, HO⟩, ⟨%f, Hout⟩, HR⟩
  ihave HS := (Entails.of_eq (table_full 24 (sendPre c) (sendPost c))) $$ HS
  rw [owe_done]
  isplitr [HR HS]
  · isplitl [HB]; · iexact HB
    isplitl [Hr]; · iexact Hr
    isplitl [Hx]; · iexact Hx
    isplitl [Hw]; · iexact Hw
    isplitl [HO]; · iexact HO
    iexists f
    isplitr; · ipureintro; intro n h1 h2; omega
    iexact Hout
  isplitl [HS] <;> iassumption

/-- After the last hop: what is left is the 24 waits for the sends. -/
theorem turn_wait {c : Dev nD} {R : sProp 𝕄} :
    iprop(P3 m ρ K c 24 ∗ (bigSep (Finset.range 24) (sendPost (F := F) c)) ∗ (bigSep (Finset.range 24) fun n => atPos ER (sCell c n) 0 ∅ 0)
        ∗ atPos ER (barCell c) (0 + 1) ∅ 0 ∗ R)
      ⊢ iprop(P4 m ρ K c 0 ∗ ((bigSep (Finset.range 24) (waitPost (F := F) c)) ∗ owesE c 0 -∗ final' m ρ c) ∗ R) := by
  unfold P3 P4
  iintro ⟨⟨HB, Hr, Hx, Hw, HO, Hout⟩, HS, Hat, Hb, HR⟩
  ihave Hr := (Entails.of_eq (table_full 24 (recvPre c) (recvPost c))) $$ Hr
  rw [table_zero]
  isplitl [HB HS Hat HO]
  · isplitl [HB]; · iexact HB
    isplitl [HS Hat]
    · iapply (show iprop((bigSep (Finset.range 24) fun n => atPos ER (sCell c n) 0 ∅ 0) ∗ (bigSep (Finset.range 24) (sendPost (F := F) c)))
        ⊢ (bigSep (Finset.range 24) (waitPre c) : sProp 𝕄) from by rw [← bigSep_sep']; exact BI.Entails.refl _)
      isplitl [Hat] <;> iassumption
    iexact HO
  isplitr [HR]
  · iintro ⟨Hw4, HO⟩
    unfold final'
    isplitl [Hb]; · iexact Hb
    isplitl [Hr]; · iexact Hr
    isplitl [Hw4]; · iexact Hw4
    isplitl [Hx]; · iexact Hx
    isplitl [Hw]; · iexact Hw
    isplitl [HO] <;> iassumption
  iexact HR

end Cert.RingProof

end
-- ==== Proof.Body.lean ====
/-
# The kernel body, from the barrier to the last send wait

Each group of instructions of the text is taken by the rule of its kind (`Kinds`); what the text indexes a slot, a tile or a
semaphore with is compared with the numbering of `Setup`.
-/
module

public import proofs.«01_k».proof.Proof.Turns

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD → ℕ → ℕ)

/-- From the opening state the body runs without a fault and leaves every slot, every token and the finished output. -/
theorem sound_body (c : Dev nD) {Q : Unit → sProp 𝕄} :
    iprop(P0 m ρ K c ∗ (bigSep (Finset.range 24) (recvPre (F := F) c)) ∗ (∃ f, oP (F := F) c f)
        ∗ (bigSep (Finset.range 24) fun n => atPos ER (sCell c n) 0 ∅ 0) ∗ (final' m ρ c -∗ |={Set.univ}=> Q ()))
      ⊢ run c (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3 cc0_scratch4 cc0_scratch5) Q := by
  simp only [cc0_body_eq_skeleton]
  unfold cc0_body_skel
  simp only [k0_part40_eq_skeleton]
  unfold k0_part40_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, Prog.bind_assoc, wp_deviceId]
  refine prologue m ρ K (dev1_eq c) (dev2_eq c) rfl rfl rfl ?_
  refine BI.Entails.trans (show _ ⊢ iprop(P1 m ρ K c 0 ∗ (bigSep (Finset.range 24) (recvPre (F := F) c)) ∗ (∃ f, oP (F := F) c f)
      ∗ (bigSep (Finset.range 24) fun n => atPos ER (sCell c n) 0 ∅ 0) ∗ atPos ER (barCell c) (0 + 1) ∅ 0 ∗ (final' m ρ c -∗ |={Set.univ}=> Q ())) from by
    iintro ⟨H1, Hb, Hr, Ho, Hs, HQ⟩
    isplitl [H1]; · iexact H1
    isplitl [Hr]; · iexact Hr
    isplitl [Ho]; · iexact Ho
    isplitl [Hs]; · iexact Hs
    isplitl [Hb] <;> iassumption) ?_
  iterate 6
    refine step_first m ρ K (by decide) (rows_at (by decide) (by decide) (by decide)) rfl rfl rfl (fun _ _ => rfl)
      (by revert c; decide +kernel) rfl rfl rfl rfl ?_
  simp only [k0_part6_eq_skeleton, k0_part7_eq_skeleton, k0_part8_eq_skeleton, k0_part9_eq_skeleton]
  unfold k0_part6_skel k0_part7_skel k0_part8_skel k0_part9_skel
  simp only [Prog.lift, Prog.bind_op, Prog.bind_ret, Prog.pure_eq_ret, Prog.bind_assoc]
  iterate 2
    refine step_first m ρ K (by decide) (rows_at (by decide) (by decide) (by decide)) rfl rfl rfl (fun _ _ => rfl)
      (by revert c; decide +kernel) rfl rfl rfl rfl ?_
  refine BI.Entails.trans (turn_next m ρ K) ?_
  iterate 2
    refine step_next m ρ K (by decide) rfl rfl (rows_at (by decide) (by decide) (by decide)) rfl rfl rfl (fun _ _ _ => rfl)
      (by revert c; decide +kernel) rfl rfl rfl rfl ?_
  simp only [k0_part10_eq_skeleton, k0_part11_eq_skeleton, k0_part12_eq_skeleton, k0_part13_eq_skeleton, k0_part14_eq_skeleton,
    k0_part15_eq_skeleton, k0_part16_eq_skeleton]
  unfold k0_part10_skel k0_part11_skel k0_part12_skel k0_part13_skel k0_part14_skel k0_part15_skel k0_part16_skel
  simp only [Prog.lift, Prog.bind_op, Prog.bind_ret, Prog.pure_eq_ret, Prog.bind_assoc]
  iterate 6
    refine step_next m ρ K (by decide) rfl rfl (rows_at (by decide) (by decide) (by decide)) rfl rfl rfl (fun _ _ _ => rfl)
      (by revert c; decide +kernel) rfl rfl rfl rfl ?_
  simp only [k0_part17_eq_skeleton, k0_part18_eq_skeleton, k0_part19_eq_skeleton, k0_part20_eq_skeleton, k0_part21_eq_skeleton,
    k0_part22_eq_skeleton, k0_part23_eq_skeleton]
  unfold k0_part17_skel k0_part18_skel k0_part19_skel k0_part20_skel k0_part21_skel k0_part22_skel k0_part23_skel
  simp only [Prog.lift, Prog.bind_op, Prog.bind_ret, Prog.pure_eq_ret, Prog.bind_assoc]
  iterate 6
    refine step_next m ρ K (by decide) rfl rfl (rows_at (by decide) (by decide) (by decide)) rfl rfl rfl (fun _ _ _ => rfl)
      (by revert c; decide +kernel) rfl rfl rfl rfl ?_
  simp only [k0_part24_eq_skeleton, k0_part25_eq_skeleton, k0_part26_eq_skeleton, k0_part27_eq_skeleton, k0_part28_eq_skeleton,
    k0_part29_eq_skeleton, k0_part30_eq_skeleton, k0_part31_eq_skeleton, k0_part32_eq_skeleton, k0_part33_eq_skeleton,
    k0_part34_eq_skeleton]
  unfold k0_part24_skel k0_part25_skel k0_part26_skel k0_part27_skel k0_part28_skel k0_part29_skel k0_part30_skel k0_part31_skel
    k0_part32_skel k0_part33_skel k0_part34_skel
  simp only [Prog.lift, Prog.bind_op, Prog.bind_ret, Prog.pure_eq_ret, Prog.bind_assoc]
  iterate 2
    refine step_next m ρ K (by decide) rfl rfl (rows_at (by decide) (by decide) (by decide)) rfl rfl rfl (fun _ _ _ => rfl)
      (by revert c; decide +kernel) rfl rfl rfl rfl ?_
  refine BI.Entails.trans (turn_last m ρ K) ?_
  iterate 8
    refine step_last m ρ K (by decide) (by decide) rfl rfl (rows_at (by decide) (by decide) (by decide)) rfl rfl rfl rfl
      (fun _ _ _ => rfl) ?_
  refine BI.Entails.trans (turn_wait m ρ K) ?_
  iterate 2
    refine step_wait m ρ K (by decide) rfl rfl ?_
  simp only [k0_part35_eq_skeleton, k0_part36_eq_skeleton, k0_part37_eq_skeleton, k0_part38_eq_skeleton, k0_part39_eq_skeleton]
  unfold k0_part35_skel k0_part36_skel k0_part37_skel k0_part38_skel k0_part39_skel
  simp only [Prog.lift, Prog.bind_op, Prog.bind_ret, Prog.pure_eq_ret, Prog.bind_assoc]
  iterate 22
    refine step_wait m ρ K (by decide) rfl rfl ?_
  unfold P4
  unfold run; rw [wp_ret]
  iintro ⟨⟨-, Ht, HO⟩, Hf, HQ⟩
  ihave Ht := (Entails.of_eq (table_full 24 (waitPre c) (waitPost c))) $$ Ht
  iapply HQ
  iapply Hf
  isplitl [Ht] <;> iassumption

end Cert.RingProof

end
-- ==== Proof.Buffers.lean ====
/-
# A ring buffer as its sixteen slots

The slots of one direction are disjoint and cover that direction's ring buffer, so the buffer owned whole is the slots owned one by one.
-/
module

public import proofs.«01_k».proof.Proof.Turns

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem slots_disjoint (b p p' : ℕ) (hb : b < 2) (hp : p < 16) (hp' : p' < 16) (h : p ≠ p') :
    Disjoint (slotR (2 * p + b)).set (slotR (2 * p' + b)).set := by
  by_cases e : (2 * p + b) / 8 % 4 = (2 * p' + b) / 8 % 4
  · refine Rect.unit_disjoint 1 ?_
    show 256 * ((2 * p + b) / 2 % 4) + 256 ≤ 256 * ((2 * p' + b) / 2 % 4) ∨ 256 * ((2 * p' + b) / 2 % 4) + 256 ≤ 256 * ((2 * p + b) / 2 % 4)
    omega
  · refine Rect.unit_disjoint 0 ?_
    show (2 * p + b) / 8 % 4 + 1 ≤ (2 * p' + b) / 8 % 4 ∨ (2 * p' + b) / 8 % 4 + 1 ≤ (2 * p + b) / 8 % 4
    omega

omit [FloatOps F] in
theorem slots_cover (b : ℕ) (hb : b < 2) : (Finset.range 16).biUnion (fun p => (slotR (2 * p + b)).set) = Finset.univ := by
  refine Finset.eq_univ_of_forall fun i => Finset.mem_biUnion.mpr ?_
  have h0 : (i 0).val < 4 := (i 0).isLt
  have h1 : (i 1).val < 1024 := (i 1).isLt
  have h2 : (i 2).val < 1024 := (i 2).isLt
  refine ⟨4 * (i 0).val + (i 1).val / 256, Finset.mem_range.mpr (by omega), Rect.mem_set_unit.mpr fun a => ?_⟩
  have e : ∀ k : ℕ, k = 2 * (4 * (i 0).val + (i 1).val / 256) + b → k / 8 % 4 = (i 0).val ∧ k / 2 % 4 = (i 1).val / 256 := fun k hk => by omega
  obtain ⟨e1, e2⟩ := e _ rfl
  fin_cases a
  · show (2 * (4 * (i 0).val + (i 1).val / 256) + b) / 8 % 4 ≤ (i 0).val ∧ (i 0).val < (2 * (4 * (i 0).val + (i 1).val / 256) + b) / 8 % 4 + 1
    omega
  · show 256 * ((2 * (4 * (i 0).val + (i 1).val / 256) + b) / 2 % 4) ≤ (i 1).val ∧ (i 1).val < 256 * ((2 * (4 * (i 0).val + (i 1).val / 256) + b) / 2 % 4) + 256
    omega
  · show 0 ≤ (i 2).val ∧ (i 2).val < 0 + 1024
    omega

omit [FloatOps F] in
/-- A slot owned, as elements of the buffer of its direction. -/
theorem slotE_eq (c : Dev nD) (n : ℕ) (b : Bool) (h : dirOf n = b) : slotE (F := F) c n
    = iprop(∃ f : Buf (Elt F) ((bufM b).view.loc (c : Thread nD τ)), (bufM b).view.loc (c : Thread nD τ) ↦[((bufM b).access (slotR n)).set]{fullShare} f) := by
  subst h
  unfold slotE
  have h1 : iprop(∃ v : Vec F S1x256x1024 .bf16, slot c n v) ⊢
      iprop(∃ f : Buf (Elt F) ((bufM (dirOf n)).view.loc (c : Thread nD τ)),
        (bufM (dirOf n)).view.loc (c : Thread nD τ) ↦[((bufM (dirOf n)).access (slotR n)).set]{fullShare} f) := by
    iintro ⟨%v, H⟩
    ihave H := (Entails.of_eq (slot_eq c n v)) $$ H
    icases H with ⟨%f, -, H⟩
    iexists f; iexact H
  have h2 : iprop(∃ f : Buf (Elt F) ((bufM (dirOf n)).view.loc (c : Thread nD τ)),
        (bufM (dirOf n)).view.loc (c : Thread nD τ) ↦[((bufM (dirOf n)).access (slotR n)).set]{fullShare} f)
      ⊢ iprop(∃ v : Vec F S1x256x1024 .bf16, slot c n v) := by
    iintro ⟨%f, H⟩
    iexists ((slotV n).read (Elt F) f)
    rw [slot_eq]
    iexists f
    isplitr; · ipureintro; rfl
    iexact H
  exact BI.Entails.antisymm h1 h2

omit [FloatOps F] in
theorem dirOf_even (p : ℕ) : dirOf (2 * p) = false := by unfold dirOf; rw [show 2 * p % 2 = 0 by omega]; rfl
omit [FloatOps F] in
theorem dirOf_odd (p : ℕ) : dirOf (2 * p + 1) = true := by unfold dirOf; rw [show (2 * p + 1) % 2 = 1 by omega]; rfl

omit [FloatOps F] in
/-- Elements of one array owned piece by piece, the pieces covering it, are the array owned whole. -/
theorem whole_pieces {ℓ : Loc nD τ sig} (K : ℕ → Finset (Idx ℓ)) (hd : ∀ p < 16, ∀ p' < 16, p ≠ p' → Disjoint (K p) (K p'))
    (hu : (Finset.range 16).biUnion K = Finset.univ) (f₀ : Buf (Elt F) ℓ) :
    iprop(∃ f : Buf (Elt F) ℓ, ℓ ↦{fullShare} f) = (bigSep (Finset.range 16) fun p => iprop(∃ f : Buf (Elt F) ℓ, ℓ ↦[K p]{fullShare} f) : sProp 𝕄) := by
  have hd' : ∀ p ∈ Finset.range 16, ∀ p' ∈ Finset.range 16, p ≠ p' → Disjoint (K p) (K p') :=
    fun p h p' h' => hd p (Finset.mem_range.mp h) p' (Finset.mem_range.mp h')
  have h1 : iprop(∃ f : Buf (Elt F) ℓ, ℓ ↦{fullShare} f) ⊢ (bigSep (Finset.range 16) fun p => iprop(∃ f : Buf (Elt F) ℓ, ℓ ↦[K p]{fullShare} f) : sProp 𝕄) := by
    iintro ⟨%f, H⟩
    rw [← hu]
    ihave H := (Entails.of_eq (pointsTo_biUnion (Finset.range 16) K hd')) $$ H
    iapply (show (bigSep (Finset.range 16) fun p => ℓ ↦[K p]{fullShare} f : sProp 𝕄) ⊢ bigSep (Finset.range 16) fun p => iprop(∃ f : Buf (Elt F) ℓ, ℓ ↦[K p]{fullShare} f) from
      bigSep_mono fun p _ => by
        have h : (ℓ ↦[K p]{fullShare} f : sProp 𝕄) ⊢ iprop(∃ f : Buf (Elt F) ℓ, ℓ ↦[K p]{fullShare} f) := by iintro H; iexists f; iexact H
        exact h)
    iexact H
  have h2 : (bigSep (Finset.range 16) fun p => iprop(∃ f : Buf (Elt F) ℓ, ℓ ↦[K p]{fullShare} f) : sProp 𝕄) ⊢ iprop(∃ f : Buf (Elt F) ℓ, ℓ ↦{fullShare} f) := by
    haveI : Nonempty (Buf (Elt F) ℓ) := ⟨f₀⟩
    iintro H
    ihave H := (BI.bigSep_exists_pi (Finset.range 16) (fun (p : ℕ) (f : Buf (Elt F) ℓ) => (ℓ ↦[K p]{fullShare} f : sProp 𝕄))) $$ H
    icases H with ⟨%fs, H⟩
    ihave H := (pointsTo_biUnion_join (Finset.range 16) K fs f₀ hd') $$ H
    icases H with ⟨%g, -, H⟩
    rw [hu]
    iexists g; iexact H
  exact BI.Entails.antisymm h1 h2

omit [FloatOps F] in
/-- The two ring buffers owned whole are the 32 slots. -/
theorem buffers_eq (c : Dev nD) (f0 : Buf (Elt F) ((c : Thread nD τ).loc cc0_scratch0)) (f1 : Buf (Elt F) ((c : Thread nD τ).loc cc0_scratch1)) :
    iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      = (bigSep (Finset.range 32) (slotE c) : sProp 𝕄) := by
  rw [show (32 : ℕ) = 2 * 16 from rfl, range_double,
    whole_pieces (ℓ := (c : Thread nD τ).loc cc0_scratch0) (fun p => (slotR (2 * p + 0)).set) (fun p h p' h' => slots_disjoint 0 p p' (by decide) h h')
      (slots_cover 0 (by decide)) f0,
    whole_pieces (ℓ := (c : Thread nD τ).loc cc0_scratch1) (fun p => (slotR (2 * p + 1)).set) (fun p h p' h' => slots_disjoint 1 p p' (by decide) h h')
      (slots_cover 1 (by decide)) f1,
    bigSep_congr (s := Finset.range 16) (Φ := fun n => slotE (F := F) c (2 * n)) fun p _ => slotE_eq c (2 * p) false (dirOf_even p),
    bigSep_congr (s := Finset.range 16) (Φ := fun n => slotE (F := F) c (2 * n + 1)) fun p _ => slotE_eq c (2 * p + 1) true (dirOf_odd p)]
  have hs : ∀ n, ((bufM false).access (slotR n)).set = (slotR n).set := fun n => View.set_slice_whole cc0_scratch0 (slotR n)
  have hs' : ∀ n, ((bufM true).access (slotR n)).set = (slotR n).set := fun n => View.set_slice_whole cc0_scratch1 (slotR n)
  refine congrArg₂ (fun A B : sProp 𝕄 => iprop(A ∗ B)) (bigSep_congr fun p _ => ?_) (bigSep_congr fun p _ => ?_)
  · rw [hs]; rfl
  · rw [hs']; rfl

omit [FloatOps F] in
/-- What is left of the slots when the body has run: those it sent and those that came in last. -/
theorem slots_back (c : Dev nD) :
    iprop((bigSep (Finset.range 24) (slotE (F := F) c)) ∗ bigSep (Finset.range 24) fun n => (if 16 ≤ n then slotE (F := F) c (n + 8) else iprop(emp)))
      = (bigSep (Finset.range 32) (slotE c) : sProp 𝕄) := by
  rw [show (32 : ℕ) = 24 + 8 from rfl, range_add 24 8]
  congr 1
  rw [show (24 : ℕ) = 16 + 8 from rfl, range_add 16 8,
    bigSep_congr (s := Finset.range 16) (Ψ := fun _ => iprop(emp)) fun n h => if_neg (by have := Finset.mem_range.mp h; omega),
    show (bigSep (Finset.range 16) fun _ => iprop(emp) : sProp 𝕄) = iprop(emp) from bigSep_emp_const _]
  refine (equiv_iff.mp emp_sep).trans (bigSep_congr fun n _ => ?_)
  rw [if_pos (by omega), show 16 + n + 8 = 16 + 8 + n by omega]

end Cert.RingProof

end
-- ==== Proof.Obligation.lean ====
/-
# The body obligation

What a device starts from, what it ends with, and that the body takes one to the other.
-/
module

public import proofs.«01_k».proof.Proof.Body
public import proofs.«01_k».proof.Proof.Buffers
public import Idealize.ShloMosaic.Lib.ValueIdxCore

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The launch has one point. -/
theorem cfg0_N : cfg0.N = 1 := by decide
/-- That point. -/
def t₀ : Fin cfg0.N := ⟨0, by rw [cfg0_N]; decide⟩
/-- Every point is that one. -/
theorem fin_N (t : Fin cfg0.N) : t = t₀ := by
  obtain ⟨t, ht⟩ := t; have := cfg0_N; exact Fin.ext (by simp only [t₀]; omega)

/-- The transfer whose arrival completes the result's element `i`, and the element's place in the tile made then. -/
def outNum (i : S1024x2048.Idx) : ℕ := 16 + (2 * ((i 0).val / 256) + (i 1).val / 1024)
/-- Where in its tile an element of the result lies. -/
def outLoc (i : S1024x2048.Idx) : S256x1024.Idx :=
  ValueIdx.ix2 ⟨(i 0).val % 256, Nat.mod_lt _ (by decide)⟩ ⟨(i 1).val % 1024, Nat.mod_lt _ (by decide)⟩
/-- The kernel's result on device `c`: its eight tiles side by side. -/
def outAt (c : Dev nD) : (cc0_stg2_0 : Ref sig .tc).ty.Contents (Elt F) := fun i => res m ρ c (outNum i) (outLoc i)

/-- An array all of whose tiles have been stored is the result. -/
theorem out_eq (c : Dev nD) (f : (cc0_stg2_0 : Ref sig .tc).ty.Contents (Elt F)) (h : OutOK m ρ c 24 f) : f = outAt m ρ c := by
  funext i
  have h0 : (i 0).val < 1024 := (i 0).isLt
  have h1 : (i 1).val < 2048 := (i 1).isLt
  have hn : 16 ≤ outNum i ∧ outNum i < 24 := by unfold outNum; omega
  have e := congrFun (h (outNum i) hn.1 hn.2) (outLoc i)
  refine Eq.trans ?_ e
  have hi : (outR (outNum i)).emb (outLoc i) = i := by
    funext a
    refine Fin.ext ?_
    fin_cases a
    · show 256 * (outNum i / 2 % 4) + 1 * ((i 0).val % 256) = (i 0).val
      unfold outNum; omega
    · show 1024 * (outNum i % 2) + 1 * ((i 1).val % 1024) = (i 1).val
      unfold outNum; omega
  show f i = f ((outR (outNum i)).emb (outLoc i))
  rw [hi]

/-- The ghost state device `c` starts from: every cell's record, its own positions, the tokens of the duties it pays. -/
def linear (c : Dev nD) : sProp 𝕄 :=
  iprop((bigSep (Finset.range 49) fun k => atPos ER (kc c k) 0 ∅ 0)
    ∗ dutyTok ER (barCell (prv c)) 0 false ∗ dutyTok ER (barCell (nxt c)) 0 true
    ∗ bigSep (Finset.range 24) fun n => iprop(dutyTok ER (sCell c n) 0 false ∗ dutyTok ER (vCell (fwd (dirOf n) c) n) 0 false))
/-- A device's share of the ghost state, for invariant names `K`. -/
def ghost (K : Dev nD → ℕ → ℕ) (c : Dev nD) : sProp 𝕄 := iprop(recs m ρ K ∗ linear c)

/-- What device `c`'s body starts from: that at some names, the credits of its barrier and of its landings, the levels. -/
def start (c : Dev nD) : sProp 𝕄 :=
  iprop((∃ K, ghost m ρ K c) ∗ (cred (tallyAt (barCell c) () 2) ∗ bigSep (Finset.range 24) fun n => cred (tallyAt (vCell c n) () N)) ∗ levAts L lv)

/-- What the body starts from: the launch's share and both ring buffers, slot by slot. -/
def Φ₀ (c : Dev nD) : sProp 𝕄 := iprop(start m ρ c ∗ bigSep (Finset.range 32) (slotE c))
/-- After the body: the slots, and every cell closed at zero. -/
def Φ₁ (c : Dev nD) : sProp 𝕄 := iprop((bigSep (Finset.range 32) (slotE (F := F) c)) ∗ bigSep (Finset.range 49) fun k => semVal (kc c k) 0)

/-- The proof data of the launch: the operands as found, the result as computed, the duties owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

/-- The first operand is fetched at the one point. -/
theorem fetch_0 (t : Fin cfg0.N) : (cfg0.win (0 : Fin 3)).fetch t = true := by rw [fin_N t]; rfl
/-- The second operand is fetched at the one point. -/
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## A family over a device's cells -/

omit [FloatOps F] in
theorem cells_eq (c : Dev nD) (Φ : GSem nD τ sig → sProp 𝕄) : (bigSep (Finset.range 49) fun k => Φ (kc c k))
    = iprop((Φ (barCell c) ∗ bigSep (Finset.range 24) fun n => Φ (sCell c n)) ∗ bigSep (Finset.range 24) fun n => Φ (vCell c n)) := by
  rw [show (49 : ℕ) = 1 + 24 + 24 from rfl, range_add (1 + 24) 24, range_add 1 24,
    bigSep_congr (s := Finset.range 24) (Φ := fun n => Φ (kc c (1 + n))) (Ψ := fun n => Φ (sCell c n))
      fun n h => by rw [kc_send c (Finset.mem_range.mp h)],
    bigSep_congr (s := Finset.range 24) (Φ := fun n => Φ (kc c (1 + 24 + n))) (Ψ := fun n => Φ (vCell c n)) fun n h => by rw [kc_recv],
    Finset.range_one, bigSep_singleton, kc_bar]

/-- Every cell of device `c`, its one round over, can be closed. -/
theorem close_all (K : Dev nD → ℕ → ℕ) (c : Dev nD) :
    iprop(recs m ρ K ∗ bigSep (Finset.range 49) fun k => atPos ER (kc c k) (0 + 1) ∅ 0)
      ⊢ |={Set.univ}=> (bigSep (Finset.range 49) fun k => semVal (kc c k) 0 : sProp 𝕄) := by
  have h : ∀ k, iprop((cellInv ER (rd m ρ) (K c k) (kc c k) ∗ reached ER (kc c k) 0) ∗ atPos ER (kc c k) (0 + 1) ∅ 0)
      ⊢ (|={Set.univ}=> semVal (kc c k) 0 : sProp 𝕄) := fun k => by
    iintro ⟨⟨#HI, -⟩, Hat⟩
    imod (Rounds.cell_close ER (rd m ρ) (Set.mem_univ (K c k)) (fun h => h) (R := 0 + 1) (duties_later m ρ (kc c k))) $$ [Hat] with Hz
    · isplitr; · iexact HI
      iexact Hat
    imodintro; iexact Hz
  have h' : iprop((bigSep (Finset.range 49) fun k => iprop(cellInv ER (rd m ρ) (K c k) (kc c k) ∗ reached ER (kc c k) 0))
      ∗ bigSep (Finset.range 49) fun k => atPos ER (kc c k) (0 + 1) ∅ 0) ⊢ (|={Set.univ}=> (bigSep (Finset.range 49) fun k => semVal (kc c k) 0) : sProp 𝕄) := by
    rw [← bigSep_sep']
    exact BI.Entails.trans (bigSep_mono fun k _ => h k) (bigSep_fupd _ _)
  have hc : recs m ρ K ⊢ (bigSep (Finset.range 49) fun k => iprop(cellInv ER (rd m ρ) (K c k) (kc c k) ∗ reached ER (kc c k) 0) : sProp 𝕄) := by
    unfold recs; exact bigSep_elim (Finset.mem_univ c)
  iintro ⟨HR, Hat⟩
  ihave HR := hc $$ HR
  iapply h'
  isplitl [HR] <;> iassumption

/-- What the body leaves, with every cell closed. -/
theorem body_exit (K : Dev nD → ℕ → ℕ) (c : Dev nD) :
    iprop(recs m ρ K ∗ final' m ρ c) ⊢ |={Set.univ}=> iprop(Φ₁ c ∗ xP m ρ c ∗ wP m ρ c ∗ owesE c 0 ∗ oP c (outAt m ρ c)) := by
  unfold final'
  iintro ⟨#HR, Hb, Hr, Hw, Hx, Hww, HO, ⟨%f, %hf, Hout⟩⟩
  obtain rfl := out_eq m ρ c f hf
  ihave Hr := (show (bigSep (Finset.range 24) (recvPost (F := F) c) : sProp 𝕄) ⊢ iprop((bigSep (Finset.range 24) fun n => atPos ER (vCell c n) (0 + 1) ∅ 0)
      ∗ bigSep (Finset.range 24) fun n => (if 16 ≤ n then slotE (F := F) c (n + 8) else iprop(emp))) from by
    rw [← bigSep_sep']; exact BI.Entails.refl _) $$ Hr
  ihave Hw := (show (bigSep (Finset.range 24) (waitPost (F := F) c) : sProp 𝕄) ⊢ iprop((bigSep (Finset.range 24) fun n => atPos ER (sCell c n) (0 + 1) ∅ 0)
      ∗ bigSep (Finset.range 24) (slotE (F := F) c)) from by
    rw [← bigSep_sep']; exact BI.Entails.refl _) $$ Hw
  icases Hr with ⟨Hr, Hs2⟩
  icases Hw with ⟨Hw, Hs1⟩
  imod (close_all m ρ K c) $$ [Hb Hr Hw] with Hz
  · isplitr; · iexact HR
    rw [cells_eq c (fun g => atPos ER g (0 + 1) ∅ 0)]
    isplitr [Hr]
    · isplitl [Hb] <;> iassumption
    iexact Hr
  imodintro
  unfold Φ₁
  isplitl [Hs1 Hs2 Hz]
  · isplitr [Hz]
    · rw [← slots_back]
      isplitl [Hs1] <;> iassumption
    iexact Hz
  isplitl [Hx]; · iexact Hx
  isplitl [Hww]; · iexact Hww
  isplitl [HO] <;> iassumption

/-! ## The obligation -/

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given, in the library's form. -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What the body gives back, in the library's form. -/
def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ c))

/-- What the body ends with is what the library asks back. -/
theorem bodyPost_intro (c : Dev nD) : iprop(Φ₁ c ∗ xP m ρ c ∗ wP m ρ c ∗ owesE c 0 ∗ oP c (outAt m ρ c)) ⊢ bodyPost m ρ c := by
  unfold bodyPost Dat.owesAt Pipeline.owesWithin owesE xP wP oP
  rw [show (dats m ρ 0 c).owed t₀.succ = 0 from rfl]
  iintro ⟨H1, Hx, Hw, ⟨%W, HO⟩, Hout⟩
  isplitl [H1]; · iexact H1
  isplitl [HO]
  · iexists W; isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The body runs from what it is given to what it must give back. -/
theorem body_runs (c : Dev nD) : bodyPre m ρ c ⊢ run c
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3 cc0_scratch4 cc0_scratch5)
      (fun _ => bodyPost m ρ c) := by
  unfold bodyPre Φ₀ start ghost linear
  iintro ⟨⟨⟨⟨%K, ⟨#HR, Hat, Ht1, Ht2, Htok⟩⟩, ⟨Hc, Hcs⟩, #Hl⟩, Hs⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = O₀ c from rfl]
  ihave Hat := (Entails.of_eq (cells_eq c (fun g => atPos ER g 0 ∅ 0))) $$ Hat
  icases Hat with ⟨⟨Hb, Has⟩, Hav⟩
  iapply (sound_body m ρ K c)
  unfold P0 base
  isplitl [Hb Ht1 Ht2 Htok Hc Hs HO Hx Hw]
  · isplitr
    · isplitr <;> iassumption
    isplitl [Hb Ht1 Ht2 Hc]
    · isplitl [Ht1]; · iexact Ht1
      isplitl [Ht2]; · iexact Ht2
      isplitl [Hb] <;> iassumption
    isplitl [Hs]; · iexact Hs
    isplitl [Htok]; · iexact Htok
    isplitl [Hx]; · unfold xP; iexact Hx
    isplitl [Hw]; · unfold wP; iexact Hw
    unfold owesE; iexists W; iexact HO
  isplitl [Hav Hcs]
  · iapply (show iprop((bigSep (Finset.range 24) fun n => atPos ER (vCell c n) 0 ∅ 0) ∗ bigSep (Finset.range 24) fun n => cred (tallyAt (vCell c n) () N))
      ⊢ (bigSep (Finset.range 24) (recvPre (F := F) c) : sProp 𝕄) from by rw [← bigSep_sep']; exact BI.Entails.refl _)
    isplitl [Hav] <;> iassumption
  isplitl [Hout]; · iexists g2; unfold oP; iexact Hout
  isplitl [Has]; · iexact Has
  iintro Hf
  imod (body_exit m ρ K c) $$ [Hf] with H
  · isplitr; · iexact HR
    iexact Hf
  imodintro
  iapply (bodyPost_intro m ρ c); iexact H

/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_runs m ρ c

end Cert.RingProof

end
-- ==== Proof.Run.lean ====
/-
# The launch: ghost state, credits, and the run of the whole program
-/
module

public import proofs.«01_k».proof.Proof.Obligation
public import Idealize.ShloMosaic.Lib.Pipeline.CollectiveSegs

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and the tokens minted at the launch -/

/-- The transfers' semaphores are the kernel's own. -/
abbrev osem (j : Fin 48) : SemLoc sig := semOf (j.val + 1)

/-- The kernel's own semaphores are exactly the transfers'. -/
theorem ownSemFacts : Pipeline.OwnSemFacts cfg0.spec osem := by decide +kernel

/-- Every window is held whole. -/
theorem share_eq (c : Dev nD) (w : Fin cfg0.W) : (dats m ρ 0 c).share w = fullShare := by unfold Dat.share; split <;> rfl

/-- The 49 semaphores of a device are distinct. -/
theorem semOf_inj : ∀ k k' : Fin 49, semOf k.val = semOf k'.val → k = k' := by decide +kernel

/-- A device's `k`th cell. -/
abbrev kcell (ck : Dev nD × Fin 49) : GSem nD τ sig := kc ck.1 ck.2.val
/-- All cells are distinct. -/
theorem kcell_injective : Function.Injective kcell := by
  rintro ⟨c, k⟩ ⟨c', k'⟩ h
  have h1 : c = c' := by have := congrArg (fun g : GSem nD τ sig => g.1.1) h; exact this
  have h2 : k = k' := semOf_inj k k' (congrArg Prod.snd h)
  rw [h1, h2]
/-- All the cells of the schedule. -/
def ringCells : Finset (GSem nD τ sig) := Finset.univ.map ⟨kcell, kcell_injective⟩

/-- The tokens of a device's own cells: one per cell, and the barrier's second. -/
def tokN (c : Dev nD) (k : ℕ) : GSem nD τ sig × ℕ × Bool := if k < 49 then (kc c k, 0, false) else (barCell c, 0, true)
/-- All tokens are distinct. -/
theorem tokN_injective : Function.Injective fun ck : Dev nD × Fin 50 => tokN ck.1 ck.2.val := by
  rintro ⟨c, k⟩ ⟨c', k'⟩ h
  have h : tokN c k.val = tokN c' k'.val := h
  unfold tokN at h
  have hk := k.isLt
  have hk' := k'.isLt
  by_cases e : k.val < 49 <;> by_cases e' : k'.val < 49
  · rw [if_pos e, if_pos e'] at h
    have h3 := kcell_injective (a₁ := (c, ⟨k.val, e⟩)) (a₂ := (c', ⟨k'.val, e'⟩)) (congrArg Prod.fst h)
    have h1 : c = c' := congrArg Prod.fst h3
    have h2 : k.val = k'.val := congrArg (fun x : Dev nD × Fin 49 => x.2.val) h3
    rw [h1, Fin.ext h2]
  · rw [if_pos e, if_neg e'] at h
    exact absurd (show false = true from congrArg (fun x : GSem nD τ sig × ℕ × Bool => x.2.2) h) (by decide)
  · rw [if_neg e, if_pos e'] at h
    exact absurd (show true = false from congrArg (fun x : GSem nD τ sig × ℕ × Bool => x.2.2) h) (by decide)
  · rw [if_neg e, if_neg e'] at h
    have h1 : c = c' := congrArg (fun x : GSem nD τ sig × ℕ × Bool => x.1.1.1) h
    rw [h1, Fin.ext (show k.val = k'.val by omega)]
/-- All the tokens of the schedule. -/
def ringToks : Finset (GSem nD τ sig × ℕ × Bool) := Finset.univ.map ⟨fun ck : Dev nD × Fin 50 => tokN ck.1 ck.2.val, tokN_injective⟩

/-- The ghost state at the start: the pipeline's and the ring's. -/
def u₀ : UU := (initOf (Pipeline.cells cfgs cellOf_inj) (Pipeline.launchToks cfgs cellOf_inj), initOf ringCells ringToks)

/-- The duty tokens of device `c`'s own cells. -/
def toks (c : Dev nD) : sProp 𝕄 :=
  iprop((bigSep (Finset.range 49) fun k => dutyTok ER (kc c k) 0 false) ∗ dutyTok ER (barCell c) 0 true)

/-- What the launch element deals device `c`. -/
def G (c : Dev nD) : sProp 𝕄 :=
  iprop((bigSep (Finset.range 49) fun k => roundState ER (rd m ρ) (kc c k) 0)
    ∗ (bigSep (Finset.range 49) fun k => iprop(atPos ER (kc c k) 0 ∅ 0 ∗ reached ER (kc c k) 0)) ∗ toks c)
/-- What the launch makes of it. -/
def G' (c : Dev nD) : sProp 𝕄 := iprop(∃ K, ghost m ρ K c)

/-- The ring's ghost state, split among the devices. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep (Finset.range 49) fun k => Φ (kc c k) := by
    unfold ringCells; rw [bigSep_map, bigSep_univ_prod]
    exact bigSep_congr fun c _ => univ_range 49 fun k => Φ (kc c k)
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    refine (univ_range 50 fun k => (dutyTok ER (tokN c k).1 (tokN c k).2.1 (tokN c k).2.2 : sProp 𝕄)).trans ?_
    rw [show (50 : ℕ) = 49 + 1 from rfl, range_add 49 1, Finset.range_one, bigSep_singleton,
      bigSep_congr (s := Finset.range 49) (Ψ := fun k => (dutyTok ER (kc c k) 0 false : sProp 𝕄)) fun k h => by
        unfold tokN; rw [if_pos (Finset.mem_range.mp h)]]
    rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the invariants -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero, cell by cell. -/
theorem sems0_eq (c : Dev nD) :
    iprop(unscopedSems0 c ∗ Pipeline.ownSems0 (Ix := Unit) (Name := ℕ) (U := UU) (Lvl := ℕ) (Val := Elt F) (τ := τ) osem c)
      = (bigSep (Finset.range 49) fun k => semVal (kc c k) 0 : sProp 𝕄) := by
  rw [unscopedSems0_eq, show (49 : ℕ) = 1 + 48 from rfl, range_add 1 48, Finset.range_one, bigSep_singleton]
  unfold Pipeline.ownSems0
  refine congrArg (fun A : sProp 𝕄 => iprop(semVal (barCell c) 0 ∗ A)) ?_
  refine (univ_range 48 fun j => (semVal (kc c (j + 1)) 0 : sProp 𝕄)).trans (bigSep_congr fun j _ => ?_)
  rw [Nat.add_comm]

/-- Device `c`'s cells, their invariants allocated, with its positions and tokens. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep (Finset.range 49) fun k => iprop(∃ κ : ℕ, cellInv ER (rd m ρ) κ (kc c k)))
          ∗ (bigSep (Finset.range 49) fun k => iprop(atPos ER (kc c k) 0 ∅ 0 ∗ reached ER (kc c k) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep (Finset.range 49) fun k => semVal (kc c k) 0) ∗ bigSep (Finset.range 49) fun k => roundState ER (rd m ρ) (kc c k) 0)
      ⊢ (|={Set.univ}=> bigSep (Finset.range 49) fun k => iprop(∃ κ : ℕ, cellInv ER (rd m ρ) κ (kc c k)) : sProp 𝕄) from by
        rw [← bigSep_sep']
        exact (bigSep_mono fun k _ => (Rounds.body_intro ER (rd m ρ) (kc c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens around the two rings -/

omit [FloatOps F] in
/-- A family over the devices and numbers, by number. -/
theorem by_number (a : ℕ) (Φ : Dev nD → ℕ → sProp 𝕄) :
    (bigSep Finset.univ fun c : Dev nD => bigSep (Finset.range a) (Φ c)) = bigSep (Finset.range a) fun n => bigSep Finset.univ fun c : Dev nD => Φ c n := by
  induction a with
  | zero =>
    simp only [Finset.range_zero, bigSep_empty]
    exact bigSep_emp_const _
  | succ a ih =>
    simp only [Finset.range_add_one, fam_insert Finset.notMem_range_self]
    rw [bigSep_sep', ih]

/-- The tokens of the duties device `c` pays. -/
def payToks (c : Dev nD) : sProp 𝕄 :=
  iprop(dutyTok ER (barCell (prv c)) 0 false ∗ dutyTok ER (barCell (nxt c)) 0 true
    ∗ bigSep (Finset.range 24) fun n => iprop(dutyTok ER (sCell c n) 0 false ∗ dutyTok ER (vCell (fwd (dirOf n) c) n) 0 false))

omit [FloatOps F] in
/-- A family over the devices and the transfers, each transfer's at the device it goes to. -/
theorem shift_rings (Φ : Dev nD → ℕ → sProp 𝕄) : (bigSep Finset.univ fun c : Dev nD => bigSep (Finset.range 24) (Φ c))
    = bigSep Finset.univ fun c : Dev nD => bigSep (Finset.range 24) fun n => Φ (fwd (dirOf n) c) n := by
  rw [by_number 24 Φ, by_number 24 (fun c n => Φ (fwd (dirOf n) c) n)]
  exact bigSep_congr fun n _ => bigSep_univ_equiv (ring (dirOf n)) fun c => Φ c n

omit [FloatOps F] in
theorem toks_around : (bigSep Finset.univ fun c : Dev nD => (toks c : sProp 𝕄)) ⊢ bigSep Finset.univ fun c : Dev nD => payToks c := by
  unfold toks payToks
  rw [bigSep_congr (s := Finset.univ) fun (c : Dev nD) _ => congrArg (fun A : sProp 𝕄 => iprop(A ∗ dutyTok ER (barCell c) 0 true))
      (cells_eq c fun g => dutyTok ER g 0 false)]
  simp only [bigSep_sep']
  rw [bigSep_univ_equiv (ring true) (fun c : Dev nD => (dutyTok ER (barCell c) 0 false : sProp 𝕄)),
    bigSep_univ_equiv (ring false) (fun c : Dev nD => (dutyTok ER (barCell c) 0 true : sProp 𝕄)),
    shift_rings fun c n => (dutyTok ER (vCell c n) 0 false : sProp 𝕄)]
  iintro ⟨⟨⟨H1, H2⟩, H3⟩, H4⟩
  isplitl [H1]; · iexact H1
  isplitl [H4]; · iexact H4
  isplitl [H2]; · iexact H2
  iexact H3

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From every device's cells to what each device's body starts from. -/
theorem regroup :
    (bigSep Finset.univ fun c : Dev nD => iprop((bigSep (Finset.range 49) fun k => iprop(∃ κ : ℕ, cellInv ER (rd m ρ) κ (kc c k)))
          ∗ (bigSep (Finset.range 49) fun k => iprop(atPos ER (kc c k) 0 ∅ 0 ∗ reached ER (kc c k) 0)) ∗ toks c) : sProp 𝕄)
      ⊢ bigSep Finset.univ (G' m ρ) := by
  have hK : (bigSep Finset.univ fun c : Dev nD => (bigSep (Finset.range 49) fun k => iprop(∃ κ : ℕ, cellInv ER (rd m ρ) κ (kc c k))) : sProp 𝕄)
      ⊢ iprop(∃ K : Dev nD → ℕ → ℕ, bigSep Finset.univ fun c : Dev nD => bigSep (Finset.range 49) fun k => cellInv ER (rd m ρ) (K c k) (kc c k)) :=
    BI.Entails.trans (bigSep_mono fun c _ => BI.bigSep_exists_pi (Finset.range 49) (fun (k : ℕ) (κ : ℕ) => (cellInv ER (rd m ρ) κ (kc c k) : sProp 𝕄)))
      (BI.bigSep_exists_pi Finset.univ (fun (c : Dev nD) (K : ℕ → ℕ) => (bigSep (Finset.range 49) fun k => cellInv ER (rd m ρ) (K k) (kc c k) : sProp 𝕄)))
  rw [bigSep_sep', bigSep_sep']
  simp only [bigSep_sep']
  iintro ⟨HI, ⟨Hat, HR⟩, Htok⟩
  ihave HK := hK $$ HI
  icases HK with ⟨%K, HI⟩
  ihave Htk := (toks_around (F := F)) $$ Htok
  ihave Hrec := (show iprop((bigSep Finset.univ fun c : Dev nD => bigSep (Finset.range 49) fun k => cellInv ER (rd m ρ) (K c k) (kc c k))
      ∗ bigSep Finset.univ fun c : Dev nD => bigSep (Finset.range 49) fun k => reached ER (kc c k) 0) ⊢ recs m ρ K from by
    unfold recs; simp only [bigSep_sep']; exact BI.Entails.refl _) $$ [HI HR]
  · isplitl [HI] <;> iassumption
  icases Hrec with #Hrec
  have hG : ∀ c : Dev nD, iprop(recs m ρ K ∗ linear c) ⊢ G' m ρ c := fun c => by
    unfold G' ghost
    iintro H; iexists K; iexact H
  iapply (with_persistent (R := recs m ρ K) fun c _ => hG c)
  isplitr; · iexact Hrec
  iapply (show iprop((bigSep Finset.univ fun c : Dev nD => bigSep (Finset.range 49) fun k => atPos ER (kc c k) 0 ∅ 0)
      ∗ bigSep Finset.univ fun c : Dev nD => payToks c) ⊢ (bigSep Finset.univ fun c : Dev nD => linear c : sProp 𝕄) from by
    rw [← bigSep_sep']; exact BI.Entails.refl _)
  isplitl [Hat] <;> iassumption

/-- Before the devices start, the counters become the cells' invariants and each token goes to the device that pays with it. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Barrier cells are equal only on the same device. -/
theorem bar_eq_iff {a b : Dev nD} : Iff (barCell a = barCell b) (a = b) :=
  ⟨fun h => Fin.ext (congrArg (fun g : GSem nD τ sig => g.1.1.val) h), fun h => h ▸ rfl⟩
/-- Receive cells are equal only for the same device and transfer. -/
theorem recv_eq_iff {a b : Dev nD} {n n' : ℕ} (h : n < 24) (h' : n' < 24) : Iff (vCell a n = vCell b n') (a = b ∧ n = n') :=
  ⟨fun e => ⟨Fin.ext (congrArg (fun g : GSem nD τ sig => g.1.1.val) e),
    sV_inj h h' (by have := congrArg Prod.snd e; exact SemLoc.dma.inj this)⟩, fun e => by rw [e.1, e.2]⟩
/-- A receive cell is no barrier cell. -/
theorem recv_ne_bar (a b : Dev nD) (n : ℕ) : vCell a n ≠ barCell b := fun h => by cases congrArg Prod.snd h

/-- What device `d` owes device `c`'s barrier cell. -/
theorem owed_bar (d c : Dev nD) : O₀ d (barCell c) () = (if d = prv c then 1 else 0) + (if d = nxt c then 1 else 0) := by
  have h0 : owe d 0 (barCell c) () = 0 := by
    by_contra h
    obtain ⟨n, _, _, e⟩ := owe_pos (Nat.pos_of_ne_zero h)
    exact recv_ne_bar _ _ _ e.symm
  unfold O₀ O₁
  rw [Pi.add_apply, Finsupp.add_apply, Pi.add_apply, Finsupp.add_apply, h0, tallyAt_apply, tallyAt_apply, Nat.zero_add]
  refine congrArg₂ (· + ·) ?_ ?_
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

/-- What device `d` owes device `c`'s receive cell of transfer `n`. -/
theorem owed_recv (d c : Dev nD) {n : ℕ} (hn : n < 24) : O₀ d (vCell c n) () = if d = bwd (dirOf n) c then N else 0 := by
  unfold O₀ O₁
  rw [Pi.add_apply, Finsupp.add_apply, Pi.add_apply, Finsupp.add_apply, tallyAt_ne_cell (recv_ne_bar _ _ _),
    tallyAt_ne_cell (recv_ne_bar _ _ _), Finsupp.zero_apply, Nat.add_zero, Nat.add_zero]
  unfold owe
  rw [Finset.sum_apply, Finsupp.finset_sum_apply, Finset.sum_eq_single n]
  · rw [tallyAt_apply]
    by_cases h : d = bwd (dirOf n) c
    · subst h; rw [fwd_bwd, if_pos ⟨rfl, rfl⟩, if_pos rfl]
    · rw [if_neg (fun ⟨h1, _⟩ => h (by rw [((recv_eq_iff hn hn).mp h1).1, bwd_fwd])), if_neg h]
  · intro n' h' hne
    rw [tallyAt_apply, if_neg (fun ⟨h1, _⟩ => hne ((recv_eq_iff hn (Finset.mem_Ico.mp h').2).mp h1).2.symm)]
  · intro h; exact absurd (Finset.mem_Ico.mpr ⟨Nat.zero_le n, hn⟩) h

/-- The launch gives every barrier cell credit for two signals: all that is owed to it. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- The launch gives every receive cell credit for one landing: all that is owed to it. -/
theorem launch_recv (c : Dev nD) {n : ℕ} (hn : n < 24) :
    tallyOn (vCell c n) (launchCredit (Pipeline.owing O₀) 0 (vCell c n)) = (tallyAt (vCell c n) () N : CellTallies nD τ sig Unit) := by
  unfold tallyAt; refine congrArg _ (Finsupp.ext fun u => ?_); cases u
  rw [Pipeline.launchCredit_owing, Finsupp.single_eq_same, Finset.sum_congr rfl fun d _ => owed_recv d c hn,
    Finset.sum_ite_eq' Finset.univ (bwd (dirOf n) c) fun _ => N, if_pos (Finset.mem_univ _)]

omit [FloatOps F] in
/-- The credits a device is dealt at the launch: its barrier's two units and its landings'. -/
theorem creds (c : Dev nD) : (Pipeline.launchCred O₀ c : sProp 𝕄)
    ⊢ iprop(cred (tallyAt (barCell c) () 2) ∗ bigSep (Finset.range 24) fun n => cred (tallyAt (vCell c n) () N)) := by
  unfold Pipeline.launchCred
  rw [bigSep_univ_at _ (SemLoc.reg barS), launch_bar]
  refine sep_mono_right ?_
  have hinj : Set.InjOn (fun n => (SemLoc.dma (sV n) : SemLoc sig)) (Finset.range 24 : Finset ℕ) := fun a ha b hb e =>
    sV_inj (Finset.mem_range.mp ha) (Finset.mem_range.mp hb) (SemLoc.dma.inj e)
  have hsub : (Finset.range 24).image (fun n => (SemLoc.dma (sV n) : SemLoc sig)) ⊆ (Finset.univ : Finset (SemLoc sig)).erase (.reg barS) := fun s hs => by
    obtain ⟨n, _, rfl⟩ := Finset.mem_image.mp hs
    exact Finset.mem_erase.mpr ⟨(fun h => by cases h), Finset.mem_univ _⟩
  refine (bigSep_subset hsub).trans ?_
  rw [bigSep_image_of_injOn hinj]
  exact Entails.of_eq (bigSep_congr fun n hn => by rw [launch_recv c (Finset.mem_range.mp hn)])

/-! ## The conditions of the run -/

/-- What the launch hands a device is what its start asks for. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The two ring buffers are nothing but slots. -/
theorem scoped_eq (c : Dev nD) : (Pipeline.scopedRest cfg0.spec c : sProp 𝕄) = bigSep (Finset.range 32) (slotE c) :=
  (scopedRest0_eq c).trans (buffers_eq c (fun _ => (Scalar.ofBits .bf16 0x0000#16 : F .bf16)) (fun _ => (Scalar.ofBits .bf16 0x0000#16 : F .bf16)))

/-- With its scratch buffers a device has what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scoped_eq]
  unfold Φ₀
  iintro ⟨Hs, -, Hr⟩
  isplitl [Hs] <;> iassumption

/-- What the body ends with closes the device's scope, every counter zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scoped_eq]
  unfold Φ₁
  rw [← sems0_eq]
  iintro ⟨Hr, Hu, Ho⟩
  isplitl [Hu]; · iexact Hu
  isplitl [Ho] <;> iassumption

/-- The pipeline's own waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array after the run. -/
def finalA (c : Dev nD) (w : Fin cfg0.W) : Buf (Elt F) ((cfg0.win w).arr.view.loc (c : Thread nD τ)) := (dats m ρ 0 c).arrAt w cfg0.N

/-- After the run every device's arrays hold the computed contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh of four devices, for any float values and from any memory with zero counters: every weakly fair execution
    terminates without a fault, every device's arrays hold the computed contents, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold after the run what they held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The second operand's array holds after the run what it held. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Frames.lean ====
/-
# The frame claims of the kernel

The run is proved once, for any float values; the two kernel programs are the same text, so both claims are its
instances.
-/
module

public import proofs.«01_k».proof.Defs
public import proofs.«01_k».proof.Proof.Gen.Kernel
public import proofs.«01_k».proof.Proof.Run

@[expose] public section

set_option maxRecDepth 16384

noncomputable section

namespace Cert.RingProof

open Cert.KernelIdeal Cert.KernelIdeal.Gen
open Idealize.ShloMosaic Idealize.SL.Sem

variable {F : FTy → Type} [FloatOps F]

/-- Every run leaves both operands as they were and every counter at zero. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩)
    (run_main m ρ)

/-- The kernel at exact values terminates without a fault, leaves its operands unchanged and all counters zero. -/
theorem frame_ideal : Cert.quiescent_KernelIdeal := fun m ρ _ => run_frame (F := Ideal) m ρ

/-- The two programs' bodies are the same: their body tables agree. -/
theorem defs₀_same : Cert.Kernel.defs₀ (F := Bits) = Cert.KernelIdeal.defs₀ (F := Bits) := by
  refine congrArg Defs.onTc ?_
  funext l a
  match l, a with
  | ⟨0, _⟩, (t, s) => rfl
/-- … and so do the tables with the pipeline's own entries. -/
theorem defs_same : Cert.Kernel.defs (F := Bits) = Cert.KernelIdeal.defs (F := Bits) :=
  congrArg (Pipeline.defs Cert.KernelIdeal.pcfgs) defs₀_same

/-- The kernel at bit patterns terminates without a fault, leaves its operands unchanged and all counters zero. -/
theorem frame_kernel : Cert.quiescent_Kernel := fun m ρ _ => by
  have h := run_frame (F := Bits) m ρ
  rw [← defs_same] at h
  exact h

end Cert.RingProof

end
-- ==== Proof.Array.lean ====
/-
# What the arrays hold

The kernel's launch has one point, whose windows are the whole arrays: the kernel finds both operands whole, and the
result array holds after the run what the body left.
-/
module

public import proofs.«01_k».proof.Proof.Run
public import Idealize.ShloMosaic.Lib.Pipeline.ValueKit

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open scoped BigOperators

variable {F : FTy → Type} [FloatOps F]
variable (m : (ℓ : Loc nD τ sig) → Buf (Elt F) ℓ) (ρ : Dev nD → PrngReg)

/-- The result array after the run is the eight tiles side by side. -/
theorem finalA_out (c : Dev nD) : finalA m ρ c (2 : Fin 3) = outAt m ρ c := by
  refine (dats m ρ 0 c).arrAt_eq_of_after_last (2 : Fin 3) t₀ (by decide +kernel) _ fun j => ?_
  rfl

/-- The kernel finds the first operand whole. -/
theorem xstg_eq (c : Dev nD) (i : S4096x1024.Idx) : xstg m ρ c i = m ((c : Thread nD τ).loc main_arg0) i := by
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega

/-- The kernel finds the second operand whole. -/
theorem wstg_eq (c : Dev nD) (i : S1024x2048.Idx) : wstg m ρ c i = m ((c : Thread nD τ).loc main_arg1) i := by
  refine congrArg (m ((c : Thread nD τ).loc main_arg1)) (funext fun a => Fin.ext ?_)
  match a with
  | ⟨0, _⟩ => show 0 + 1 * (i 0).val = (i 0).val; omega
  | ⟨1, _⟩ => show 0 + 1 * (i 1).val = (i 1).val; omega

end Cert.RingProof

end
-- ==== Proof.Value.lean ====
/-
# What one tile holds, at exact values

Every device contributes one product of its column block of `x` with its row block of `w`. A partial sum in plane `j`
of the ring buffers holds the contributions of the device and of the `j` devices before it on the ring.
-/
module

public import proofs.«01_k».proof.Proof.Setup
public import Idealize.ShloMosaic.PureOps.Ideal
public import Idealize.ShloMosaic.Lib.MatmulPlain
public import Idealize.ShloMosaic.Lib.Pipeline.Value

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ) (ρ : Dev nD → PrngReg)

/-- Device `d`'s column block of `x`, row by row. -/
def xv (d : Dev nD) (R : Fin 4096) (k : Fin 1024) : EReal := xstg m ρ d (ix2 R k)
/-- Device `d`'s row block of `w`, row by row. -/
def wv (d : Dev nD) (k : Fin 1024) (Q : Fin 2048) : EReal := wstg m ρ d (ix2 k Q)
/-- Device `d`'s contribution to the product at row `R` and column `Q`. -/
def own (d : Dev nD) (R : Fin 4096) (Q : Fin 2048) : EReal :=
  ∑ k : Fin 1024, xv m ρ d R k * wv m ρ d k Q

/-- A tile's product at a place: the contracted sum. -/
theorem mm_apply (x : Vec Ideal S256x1024 .f32) (w : Vec Ideal S1024x1024 .f32) (r : Fin 256) (q : Fin 1024) :
    mm x w (ix2 r q) = ∑ k : Fin 1024, x (ix2 r k) * w (ix2 k q) := by
  unfold mm
  rw [shapeCast_self, shapeCast_self]
  refine (Ideal.matmul_plain_apply (M := 256) (K := 1024) (N := 1024) none x w _ r q).trans ?_
  show Ideal.ofBits .f32 0x00000000#32 + _ = _
  rw [Ideal.ofBits_zero_f32, zero_add]

/-- A tile's product is the device's contribution at the tile's place in the whole result. -/
theorem mm_own (b : Bool) (j t : ℕ) (c : Dev nD) (r : Fin 256) (q : Fin 1024) (R : Fin 4096) (Q : Fin 2048)
    (hR : R.val = 1024 * chunk b j c + 256 * (t % 4) + r.val) (hQ : Q.val = (if b then 1024 else 0) + q.val) :
    mm (xrows m ρ b j c t) (wcols m ρ b c) (ix2 r q) = own m ρ c R Q := by
  rw [mm_apply]
  refine Finset.sum_congr rfl fun k _ => congrArg₂ (· * ·) ?_ ?_
  · refine congrArg (xstg m ρ c) (funext fun a => Fin.ext ?_)
    match a with
    | ⟨0, _⟩ => show 1024 * chunk b j c + 256 * (t % 4) + 1 * r.val = R.val; omega
    | ⟨1, _⟩ => show 0 + 1 * k.val = k.val; omega
  · refine congrArg (wstg m ρ c) (funext fun a => Fin.ext ?_)
    match a with
    | ⟨0, _⟩ => show 0 + 1 * k.val = k.val; omega
    | ⟨1, _⟩ => show (if b then 1024 else 0) + 1 * q.val = Q.val; omega

/-- A partial sum packed into a slot, at a place. -/
theorem pack_apply (y : FVec Ideal S256x1024 .f32) (r : Fin 256) (q : Fin 1024) : pack y (ix3 0 r q) = y (ix2 r q) := by
  unfold pack
  exact shapeCast_apply _ _ _ (ix2 r q) (by
    rw [Shape.rowMajor_val_two, Shape.rowMajor_val_three]
    show r.val * 1024 + q.val = (0 * 256 + r.val) * 1024 + q.val; omega)
/-- A partial sum read back from a slot, at a place. -/
theorem unpack_apply (v : Vec Ideal S1x256x1024 .bf16) (r : Fin 256) (q : Fin 1024) : unpack v (ix2 r q) = v (ix3 0 r q) := by
  unfold unpack
  exact shapeCast_apply _ _ _ (ix3 0 r q) (by
    rw [Shape.rowMajor_val_two, Shape.rowMajor_val_three]
    show (0 * 256 + r.val) * 1024 + q.val = r.val * 1024 + q.val; omega)

/-- The sum of the contributions of `c` and of the `j` devices before it on ring `b`. -/
def upto (b : Bool) (R : Fin 4096) (Q : Fin 2048) : ℕ → Dev nD → EReal
  | 0, c => own m ρ c R Q
  | j + 1, c => upto b R Q j (bwd b c) + own m ρ c R Q

/-- A device adds to the row block that the device before it sent. -/
theorem chunk_bwd (b : Bool) (j : ℕ) (hj : j < 3) (c : Dev nD) : chunk b j (bwd b c) = chunk b (j + 1) c := by
  revert b c; revert hj; revert j; decide

/-- What device `c` keeps in plane `j`, at a place. -/
theorem val_apply (b : Bool) (t : ℕ) (r : Fin 256) (q : Fin 1024) (R : Fin 4096) (Q : Fin 2048)
    (hQ : Q.val = (if b then 1024 else 0) + q.val) :
    ∀ j, j < 4 → ∀ c, R.val = 1024 * chunk b j c + 256 * (t % 4) + r.val → val m ρ b t j c (ix3 0 r q) = upto m ρ b R Q j c
  | 0, _, c, hR => (pack_apply _ r q).trans (mm_own m ρ b 0 t c r q R Q hR hQ)
  | j + 1, hj, c, hR => by
    refine (pack_apply _ r q).trans (congrArg₂ (· + ·) ?_ (mm_own m ρ b (j + 1) t c r q R Q hR hQ))
    rw [unpack_apply]
    exact val_apply b t r q R Q hQ j (by omega) (bwd b c) (by rw [chunk_bwd b j (by omega)]; exact hR)

/-- The contributions of all four devices, in whichever order a ring adds them. -/
theorem upto_all (b : Bool) (R : Fin 4096) (Q : Fin 2048) (c : Dev nD) : upto m ρ b R Q 3 c = ∑ d : Fin 4, own m ρ d R Q := by
  have h : upto m ρ b R Q 3 c = own m ρ (bwd b (bwd b (bwd b c))) R Q + own m ρ (bwd b (bwd b c)) R Q + own m ρ (bwd b c) R Q + own m ρ c R Q := rfl
  rw [h, Fin.sum_univ_four]
  have hb : ∀ (b : Bool) (c : Dev nD), [bwd b (bwd b (bwd b c)), bwd b (bwd b c), bwd b c, c].Perm [(0 : Fin 4), 1, 2, 3] := by decide
  have hs := ((hb b c).map (fun d => own m ρ d R Q)).sum_eq
  simp only [List.map_cons, List.map_nil, List.sum_cons, List.sum_nil, add_zero, ← add_assoc] at hs
  exact hs

/-- The activation of one value, as the kernel orders its operations. -/
def gelu₁ (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * y * y * y)))

/-- A result tile at a place: the activation of the complete sum. -/
theorem res_apply (c : Dev nD) (n : ℕ) (h : 16 ≤ n) (h' : n < 24) (r : Fin 256) (q : Fin 1024) (R : Fin 4096) (Q : Fin 2048)
    (hR : R.val = 1024 * c.val + 256 * (n / 2 % 4) + r.val) (hQ : Q.val = 1024 * (n % 2) + q.val) :
    res m ρ c n (ix2 r q) = gelu₁ (∑ d : Fin 4, own m ρ d R Q) := by
  have hQ' : Q.val = (if dirOf n then 1024 else 0) + q.val := by
    rw [hQ]; unfold dirOf
    rcases Nat.mod_two_eq_zero_or_one n with e | e <;> rw [e] <;> rfl
  have h3 : ∀ (b : Bool) (c : Dev nD), chunk b 3 c = c.val := by decide
  have hT : tileOf n % 4 = n / 2 % 4 := by unfold tileOf; omega
  have h8 : n / 8 = 2 := by omega
  have h88 : (n + 8) / 8 = 3 := by omega
  have hT8 : tileOf (n + 8) % 4 = n / 2 % 4 := by unfold tileOf; omega
  refine congrArg gelu₁ (Eq.trans (congrArg₂ (· + ·) ?_ ?_) (upto_all m ρ (dirOf n) R Q c))
  · rw [unpack_apply]; unfold got sent; rw [h8]
    exact val_apply m ρ (dirOf n) (tileOf n) r q R Q hQ' 2 (by decide) _ (by rw [chunk_bwd _ 2 (by decide), h3, hT]; exact hR)
  · exact mm_own m ρ (dirOf (n + 8)) ((n + 8) / 8) (tileOf (n + 8)) c r q R Q (by rw [h88, h3, hT8]; exact hR)
      (by rw [dirOf_add8]; exact hQ') |>.trans rfl

end Cert.RingProof

end
-- ==== Proof.RefValue.lean ====
/-
# What the reference computes, at exact values

One product over all 4096 columns, then the activation with its cube written out.
-/
module

public import proofs.«01_k».proof.Proof.Value
public import proofs.«01_k».proof.Proof.Gen.ReferenceIdeal.Run
public import Idealize.ShloMosaic.Lib.StackMember

@[expose] public section

set_option maxRecDepth 16384

noncomputable section

namespace Cert.RingProof

open Cert.KernelIdeal Cert.KernelIdeal.Gen

open Idealize.ShloMosaic
open Idealize.ShloMosaic.TcCoe
open Idealize.ShloMosaic.ValueIdx
open scoped BigOperators

/-- The product's dimension numbers are the plain ones. -/
theorem ref_dot : Cert.ReferenceIdeal.dot_S4096x4096_S4096x2048_S4096x2048_1_0_0_1_n_n = DotDims.plain 4096 4096 2048 := rfl

/-- The array the reference computes from the whole operands. -/
def refOut (X : FVec Ideal ⟨2, ![4096, 4096]⟩ .f32) (W : FVec Ideal ⟨2, ![4096, 2048]⟩ .f32) : FVec Ideal ⟨2, ![4096, 2048]⟩ .f32 :=
  fun i => gelu₁ (∑ k : Fin 4096, (X (ix2 (i 0) k) : EReal) * W (ix2 k (i 1)))

/-- The reference's whole term from its product. -/
def refTerm (y : FVec Ideal ⟨2, ![4096, 2048]⟩ .f32) : FVec Ideal ⟨2, ![4096, 2048]⟩ .f32 :=
  mulf (mulf (broadcastInDim Cert.ReferenceIdeal.S4096x2048 ![] Cert.ReferenceIdeal.Gen.bcast_S_S4096x2048 (constant Cert.ReferenceIdeal.S_ .f32 0x3F000000#32)) y)
    (addf (broadcastInDim Cert.ReferenceIdeal.S4096x2048 ![] Cert.ReferenceIdeal.Gen.bcast_S_S4096x2048 (constant Cert.ReferenceIdeal.S_ .f32 0x3F800000#32))
      (Host.tanh (mulf (broadcastInDim Cert.ReferenceIdeal.S4096x2048 ![] Cert.ReferenceIdeal.Gen.bcast_S_S4096x2048 (constant Cert.ReferenceIdeal.S_ .f32 0x3F4C422A#32))
        (addf y (mulf (broadcastInDim Cert.ReferenceIdeal.S4096x2048 ![] Cert.ReferenceIdeal.Gen.bcast_S_S4096x2048 (constant Cert.ReferenceIdeal.S_ .f32 0x3D372713#32))
          (mulf (mulf y y) y))))))

/-- At a place, it is the activation of the product there: the products of three agree in either grouping. -/
theorem refTerm_apply (y : FVec Ideal ⟨2, ![4096, 2048]⟩ .f32) (i : (⟨2, ![4096, 2048]⟩ : Shape).Idx) : refTerm y i = gelu₁ (y i) := by
  have h : ∀ a b : EReal, a * (b * b * b) = a * b * b * b := fun a b => by rw [← mul_assoc, ← mul_assoc]
  refine Eq.trans ?_ (congrArg (fun z => Ideal.ofBits .f32 0x3F000000#32 * y i * (Ideal.ofBits .f32 0x3F800000#32
    + Ideal.tanh (Ideal.ofBits .f32 0x3F4C422A#32 * (y i + z)))) (h (Ideal.ofBits .f32 0x3D372713#32) (y i)))
  rfl

/-- The reference's term over its operands is that array. -/
theorem ref_eq (X : FVec Ideal ⟨2, ![4096, 4096]⟩ .f32) (W : FVec Ideal ⟨2, ![4096, 2048]⟩ .f32) :
    refTerm (Host.dotGeneral Cert.ReferenceIdeal.dot_S4096x4096_S4096x2048_S4096x2048_1_0_0_1_n_n none X W) = refOut X W := by
  funext i
  rw [refTerm_apply]
  refine congrArg gelu₁ ?_
  rw [ref_dot]
  exact (congrArg _ (eq_ix2 i)).trans (StackMember.dotGeneral_plain_apply none X W (i 0) (i 1))

end Cert.RingProof

end
-- ==== Proof.Equation.lean ====
/-
# The kernel's result is the reference's

Each device's operands are blocks of the whole ones, so the four contributions are the four quarters of the whole
contraction, and the eight tiles of device `c` are row block `c` of the reference's array.
-/
module

public import proofs.«01_k».proof.Proof.Array
public import proofs.«01_k».proof.Proof.RefValue
public import Idealize.ShloMosaic.Lib.Layout

@[expose] public section

set_option maxRecDepth 16384

noncomputable section

namespace Cert.RingProof

open Cert.KernelIdeal Cert.KernelIdeal.Gen

open Idealize.ShloMosaic hiding ix2
open Idealize.ShloMosaic.TcCoe
open Idealize.ShloMosaic.ValueIdx
open scoped BigOperators

variable (m : (ℓ : Loc nD τ sig) → Buf (Elt Ideal) ℓ) (ρ : Dev nD → PrngReg)
variable (X : FVec Ideal ⟨2, ![4096, 4096]⟩ .f32) (W : FVec Ideal ⟨2, ![4096, 2048]⟩ .f32)

/-- A device's contribution is its quarter of the whole contraction. -/
theorem own_block (d : Dev nD)
    (hx : m ((d.tc : Thread nD τ).loc main_arg0) = Layout.block ⟨2, ![4096, 1024]⟩ ⟨2, ![4096, 4096]⟩ 1 4 d X)
    (hw : m ((d.tc : Thread nD τ).loc main_arg1) = Layout.block ⟨2, ![1024, 2048]⟩ ⟨2, ![4096, 2048]⟩ 0 4 d W)
    (R : Fin 4096) (Q : Fin 2048) (k : Fin 1024) (hl : d.val * 1024 + k.val < 4096) :
    xv m ρ d R k * wv m ρ d k Q = (X (ix2 R ⟨d.val * 1024 + k.val, hl⟩) : EReal) * W (ix2 ⟨d.val * 1024 + k.val, hl⟩ Q) := by
  refine congrArg₂ (· * ·) ?_ ?_
  · refine ((xstg_eq m ρ d (ix2 R k)).trans (congrFun hx (ix2 R k))).trans (congrArg X (funext fun a => Fin.ext ?_))
    match a with
    | ⟨0, _⟩ => rfl
    | ⟨1, _⟩ => rfl
  · refine ((wstg_eq m ρ d (ix2 k Q)).trans (congrFun hw (ix2 k Q))).trans (congrArg W (funext fun a => Fin.ext ?_))
    match a with
    | ⟨0, _⟩ => rfl
    | ⟨1, _⟩ => rfl

/-- The four contributions together are the whole contraction. -/
theorem sum_own
    (hx : ∀ d : Dev nD, m ((d.tc : Thread nD τ).loc main_arg0) = Layout.block ⟨2, ![4096, 1024]⟩ ⟨2, ![4096, 4096]⟩ 1 4 d X)
    (hw : ∀ d : Dev nD, m ((d.tc : Thread nD τ).loc main_arg1) = Layout.block ⟨2, ![1024, 2048]⟩ ⟨2, ![4096, 2048]⟩ 0 4 d W)
    (R : Fin 4096) (Q : Fin 2048) :
    ∑ d : Fin 4, own m ρ d R Q = ∑ l : Fin 4096, (X (ix2 R l) : EReal) * W (ix2 l Q) :=
  Fin.sum_mul_add_congr (S := 4) (n := 1024) fun d k hl => own_block m ρ X W d (hx d) (hw d) R Q k hl

/-- Device `c`'s result is row block `c` of the reference's array. -/
theorem out_block
    (hx : ∀ d : Dev nD, m ((d.tc : Thread nD τ).loc main_arg0) = Layout.block ⟨2, ![4096, 1024]⟩ ⟨2, ![4096, 4096]⟩ 1 4 d X)
    (hw : ∀ d : Dev nD, m ((d.tc : Thread nD τ).loc main_arg1) = Layout.block ⟨2, ![1024, 2048]⟩ ⟨2, ![4096, 2048]⟩ 0 4 d W)
    (c : Dev nD) : outAt m ρ c = Layout.block ⟨2, ![1024, 2048]⟩ ⟨2, ![4096, 2048]⟩ 0 4 c (refOut X W) := by
  funext i
  have h0 : (i 0).val < 1024 := (i 0).isLt
  have h1 : (i 1).val < 2048 := (i 1).isLt
  have hc : c.val < 4 := c.isLt
  have hR : c.val * 1024 + (i 0).val < 4096 := by omega
  refine (res_apply m ρ c (outNum i) (by unfold outNum; omega) (by unfold outNum; omega) ⟨(i 0).val % 256, Nat.mod_lt _ (by decide)⟩
    ⟨(i 1).val % 1024, Nat.mod_lt _ (by decide)⟩ ⟨c.val * 1024 + (i 0).val, hR⟩ ⟨(i 1).val, h1⟩ ?_ ?_).trans ?_
  · show c.val * 1024 + (i 0).val = 1024 * c.val + 256 * (outNum i / 2 % 4) + (i 0).val % 256
    unfold outNum; omega
  · show (i 1).val = 1024 * (outNum i % 2) + (i 1).val % 1024
    unfold outNum; omega
  · rw [sum_own m ρ X W hx hw]
    rfl

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every run of the reference leaves its operands unchanged and has no counter that is not zero. -/
theorem frame_reference : Cert.quiescent_ReferenceIdeal := fun m ρ _ =>
  (θ_run Cert.ReferenceIdeal.defs _ _).mono
    (fun r h => ⟨fun c => (h c).2, funext fun g => by obtain ⟨_, s⟩ := g; cases s with | reg s => exact s.elim0 | dma s => exact s.elim0⟩)
    (Cert.ReferenceIdeal.Value.run (F := Ideal) m ρ)

/-- At exact values, device `c`'s result is row block `c` of the reference's. -/
theorem value : Cert.algebraic_KernelIdeal_ReferenceIdeal := fun m g m' g' _ hb =>
  ⟨Cert.RingProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun r h c => ⟨((h.1 c (2 : Fin 3)).trans (Cert.RingProof.finalA_out m g c)).trans
          (Cert.RingProof.out_block m g _ _ (fun d => (hb d).1) (fun d => (hb d).2) c),
        (h.1 c (0 : Fin 3)).trans (Cert.RingProof.finalA_x m g c), (h.1 c (1 : Fin 3)).trans (Cert.RingProof.finalA_w m g c)⟩)
      (Cert.RingProof.run_main (F := Ideal) m g),
    (θ_run Cert.ReferenceIdeal.defs _ _).mono
      (fun r h => ⟨(h 0).1.trans (Cert.RingProof.ref_eq _ _), (h 0).2⟩)
      (Cert.ReferenceIdeal.Value.run (F := Ideal) m' g')⟩

theorem claim : Cert.Claim := ⟨Cert.Kernel.Gen.facts, Cert.KernelIdeal.Gen.facts, Cert.ReferenceIdeal.Gen.facts,
  Cert.RingProof.frame_kernel, Cert.RingProof.frame_ideal, frame_reference, trivial, value⟩

end Cert.Proof

end
